-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1134) = v0 c
          ∧ r.2.mem ((c.tc : Thread Cert.ReferenceIdeal.nD Cert.ReferenceIdeal.τ).loc Cert.ReferenceIdeal.main_v1132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S3072x256 : Shape := ⟨2, ![3072, 256]⟩
abbrev S512x1280 : Shape := ⟨2, ![512, 1280]⟩
abbrev S1280 : Shape := ⟨1, ![1280]⟩
abbrev S_ : Shape := ⟨0, ![]⟩

class Facts : Prop where
  bcast_S_S1280 : S_.BroadcastsInDim S1280 (![] : Fin 0 → Fin S1280.rank)
  reducesTo_S1280_S_d0 : S1280.ReducesTo [0] S_
  h_S_ : 0 < S_.numel

variable [Facts]

def fn {F : FTy → Type} [FloatOps F] (main_arg0 : FVec F S3072x256 .f32) (main_arg1 : FVec F S3072x256 .f32) (main_arg2 : FVec F S512x1280 .f32) (main_arg3 : FVec F S1280 .f32) (main_arg4 : FVec F S512x1280 .f32) (main_arg5 : FVec F S1280 .f32) : IVec S_ 1 :=
  let main_cst : FVec F S_ .f32 := constant S_ .f32 0x00000000#32
  let main_v0 : FVec F S1280 .f32 := broadcastInDim S1280 ![] bcast_S_S1280 main_cst
  let main_v1 : IVec S1280 1 := cmpf .oeq main_arg3 main_v0
  let main_c : IVec S_ 1 := constantI S_ 1 1#1
  let main_v2 : IVec S_ 1 := (fun x v => Host.reduce IntOp.andi x v reducesTo_S1280_S_d0 h_S_) main_v1 main_c
  let main_cst_0 : FVec F S_ .f32 := constant S_ .f32 0x00000000#32
  let main_v3 : FVec F S1280 .f32 := broadcastInDim S1280 ![] bcast_S_S1280 main_cst_0
  let main_v4 : IVec S1280 1 := cmpf .oeq main_arg5 main_v3
  let main_c_1 : IVec S_ 1 := constantI S_ 1 1#1
  let main_v5 : IVec S_ 1 := (fun x v => Host.reduce IntOp.andi x v reducesTo_S1280_S_d0 h_S_) main_v4 main_c_1
  let main_v6 : IVec S_ 1 := andi main_v2 main_v5
  main_v6
-- ==== Kernel.lean ====
abbrev S3072x256 : Shape := ⟨2, ![3072, 256]⟩
abbrev S512x1280 : Shape := ⟨2, ![512, 1280]⟩
abbrev S1280 : Shape := ⟨1, ![1280]⟩
abbrev S1x256 : Shape := ⟨2, ![1, 256]⟩
abbrev S8 : Shape := ⟨1, ![8]⟩
abbrev S2 : Shape := ⟨1, ![2]⟩
abbrev S_ : Shape := ⟨0, ![]⟩
abbrev S1 : Shape := ⟨1, ![1]⟩
abbrev S512x768 : Shape := ⟨2, ![512, 768]⟩
abbrev S768x256 : Shape := ⟨2, ![768, 256]⟩
abbrev S512x512 : Shape := ⟨2, ![512, 512]⟩
abbrev S384x512 : Shape := ⟨2, ![384, 512]⟩
abbrev S128x512 : Shape := ⟨2, ![128, 512]⟩
abbrev S128x768 : Shape := ⟨2, ![128, 768]⟩
abbrev S128x256 : Shape := ⟨2, ![128, 256]⟩
abbrev S384x256 : Shape := ⟨2, ![384, 256]⟩
abbrev S1536x256 : Shape := ⟨2, ![1536, 256]⟩
abbrev S768x512 : Shape := ⟨2, ![768, 512]⟩
abbrev S192x512 : Shape := ⟨2, ![192, 512]⟩
abbrev S192x768 : Shape := ⟨2, ![192, 768]⟩
abbrev S192x256 : Shape := ⟨2, ![192, 256]⟩
abbrev S96x512 : Shape := ⟨2, ![96, 512]⟩
abbrev S96x768 : Shape := ⟨2, ![96, 768]⟩
abbrev S96x256 : Shape := ⟨2, ![96, 256]⟩
abbrev S48x512 : Shape := ⟨2, ![48, 512]⟩
abbrev S48x768 : Shape := ⟨2, ![48, 768]⟩
abbrev S48x256 : Shape := ⟨2, ![48, 256]⟩
abbrev S24x512 : Shape := ⟨2, ![24, 512]⟩
abbrev S24x768 : Shape := ⟨2, ![24, 768]⟩
abbrev S24x256 : Shape := ⟨2, ![24, 256]⟩
abbrev S12x512 : Shape := ⟨2, ![12, 512]⟩
abbrev S12x768 : Shape := ⟨2, ![12, 768]⟩
abbrev S12x256 : Shape := ⟨2, ![12, 256]⟩
abbrev S6x512 : Shape := ⟨2, ![6, 512]⟩
abbrev S6x768 : Shape := ⟨2, ![6, 768]⟩
abbrev S6x256 : Shape := ⟨2, ![6, 256]⟩
abbrev S3x512 : Shape := ⟨2, ![3, 512]⟩
abbrev S3x768 : Shape := ⟨2, ![3, 768]⟩
abbrev S3x256 : Shape := ⟨2, ![3, 256]⟩
abbrev S2x256 : Shape := ⟨2, ![2, 256]⟩
abbrev S1x512 : Shape := ⟨2, ![1, 512]⟩
abbrev S1x768 : Shape := ⟨2, ![1, 768]⟩

abbrev nBuf : Space → Nat
  | .hbm => 8
  | .vmem => 6
  | .smem => 0
  | _ => 0

abbrev bufTy : (tb : Table) → Fin (tcTables nBuf tb) → BufTy
  | .hbm, ⟨0, _⟩ => ⟨S3072x256, .f32⟩
  | .hbm, ⟨1, _⟩ => ⟨S3072x256, .f32⟩
  | .hbm, ⟨2, _⟩ => ⟨S512x1280, .f32⟩
  | .hbm, ⟨3, _⟩ => ⟨S1280, .f32⟩
  | .hbm, ⟨4, _⟩ => ⟨S512x1280, .f32⟩
  | .hbm, ⟨5, _⟩ => ⟨S1280, .f32⟩
  | .hbm, ⟨6, _⟩ => ⟨S1x256, .f32⟩
  | .hbm, ⟨7, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S3072x256, .f32⟩
  | .local _ .vmem, ⟨3, _⟩ => ⟨S3072x256, .f32⟩
  | .local _ .vmem, ⟨4, _⟩ => ⟨S512x1280, .f32⟩
  | .local _ .vmem, ⟨5, _⟩ => ⟨S512x1280, .f32⟩
  | _, _ => ⟨S3072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S3072x256 : Shape := ⟨2, ![3072, 256]⟩
abbrev S512x1280 : Shape := ⟨2, ![512, 1280]⟩
abbrev S1280 : Shape := ⟨1, ![1280]⟩
abbrev S2048x256 : Shape := ⟨2, ![2048, 256]⟩
abbrev S1024x2x256 : Shape := ⟨3, ![1024, 2, 256]⟩
abbrev S1024x1x256 : Shape := ⟨3, ![1024, 1, 256]⟩
abbrev S1024x256 : Shape := ⟨2, ![1024, 256]⟩
abbrev S1024x512 : Shape := ⟨2, ![1024, 512]⟩
abbrev S1024x1280 : Shape := ⟨2, ![1024, 1280]⟩
abbrev S1x1280 : Shape := ⟨2, ![1, 1280]⟩
abbrev S_ : Shape := ⟨0, ![]⟩
abbrev S512x2x256 : Shape := ⟨3, ![512, 2, 256]⟩
abbrev S512x1x256 : Shape := ⟨3, ![512, 1, 256]⟩
abbrev S512x256 : Shape := ⟨2, ![512, 256]⟩
abbrev S512x512 : Shape := ⟨2, ![512, 512]⟩
abbrev S256x2x256 : Shape := ⟨3, ![256, 2, 256]⟩
abbrev S256x1x256 : Shape := ⟨3, ![256, 1, 256]⟩
abbrev S256x256 : Shape := ⟨2, ![256, 256]⟩
abbrev S256x512 : Shape := ⟨2, ![256, 512]⟩
abbrev S256x1280 : Shape := ⟨2, ![256, 1280]⟩
abbrev S128x2x256 : Shape := ⟨3, ![128, 2, 256]⟩
abbrev S128x1x256 : Shape := ⟨3, ![128, 1, 256]⟩
abbrev S128x256 : Shape := ⟨2, ![128, 256]⟩
abbrev S128x512 : Shape := ⟨2, ![128, 512]⟩
abbrev S128x1280 : Shape := ⟨2, ![128, 1280]⟩
abbrev S64x2x256 : Shape := ⟨3, ![64, 2, 256]⟩
abbrev S64x1x256 : Shape := ⟨3, ![64, 1, 256]⟩
abbrev S64x256 : Shape := ⟨2, ![64, 256]⟩
abbrev S64x512 : Shape := ⟨2, ![64, 512]⟩
abbrev S64x1280 : Shape := ⟨2, ![64, 1280]⟩
abbrev S32x2x256 : Shape := ⟨3, ![32, 2, 256]⟩
abbrev S32x1x256 : Shape := ⟨3, ![32, 1, 256]⟩
abbrev S32x256 : Shape := ⟨2, ![32, 256]⟩
abbrev S32x512 : Shape := ⟨2, ![32, 512]⟩
abbrev S32x1280 : Shape := ⟨2, ![32, 1280]⟩
abbrev S16x2x256 : Shape := ⟨3, ![16, 2, 256]⟩
abbrev S16x1x256 : Shape := ⟨3, ![16, 1, 256]⟩
abbrev S16x256 : Shape := ⟨2, ![16, 256]⟩
abbrev S16x512 : Shape := ⟨2, ![16, 512]⟩
abbrev S16x1280 : Shape := ⟨2, ![16, 1280]⟩
abbrev S8x2x256 : Shape := ⟨3, ![8, 2, 256]⟩
abbrev S8x1x256 : Shape := ⟨3, ![8, 1, 256]⟩
abbrev S8x256 : Shape := ⟨2, ![8, 256]⟩
abbrev S8x512 : Shape := ⟨2, ![8, 512]⟩
abbrev S8x1280 : Shape := ⟨2, ![8, 1280]⟩
abbrev S4x2x256 : Shape := ⟨3, ![4, 2, 256]⟩
abbrev S4x1x256 : Shape := ⟨3, ![4, 1, 256]⟩
abbrev S4x256 : Shape := ⟨2, ![4, 256]⟩
abbrev S4x512 : Shape := ⟨2, ![4, 512]⟩
abbrev S4x1280 : Shape := ⟨2, ![4, 1280]⟩
abbrev S2x2x256 : Shape := ⟨3, ![2, 2, 256]⟩
abbrev S2x1x256 : Shape := ⟨3, ![2, 1, 256]⟩
abbrev S2x256 : Shape := ⟨2, ![2, 256]⟩
abbrev S2x512 : Shape := ⟨2, ![2, 512]⟩
abbrev S2x1280 : Shape := ⟨2, ![2, 1280]⟩
abbrev S1x2x256 : Shape := ⟨3, ![1, 2, 256]⟩
abbrev S1x1x256 : Shape := ⟨3, ![1, 1, 256]⟩
abbrev S1x256 : Shape := ⟨2, ![1, 256]⟩
abbrev S1x512 : Shape := ⟨2, ![1, 512]⟩

abbrev nBuf : Space → Nat
  | .hbm => 1317
  | .vmem => 0
  | .smem => 0
  | _ => 0

abbrev hbmTy0_0 (i : Nat) : BufTy := match i % 128 with
  | 0 => ⟨S3072x256, .f32⟩
  | 1 => ⟨S3072x256, .f32⟩
  | 2 => ⟨S512x1280, .f32⟩
  | 3 => ⟨S1280, .f32⟩
  | 4 => ⟨S512x1280, .f32⟩
  | 5 => ⟨S1280, .f32⟩
  | 6 => ⟨S2048x256, .f32⟩
  | 7 => ⟨S2048x256, .f32⟩
  | 8 => ⟨S1024x2x256, .f32⟩
  | 9 => ⟨S1024x2x256, .f32⟩
  | 10 => ⟨S1024x1x256, .f32⟩
  | 11 => ⟨S1024x256, .f32⟩
  | 12 => ⟨S1024x1x256, .f32⟩
  | 13 => ⟨S1024x256, .f32⟩
  | 14 => ⟨S1024x1x256, .f32⟩
  | 15 => ⟨S1024x256, .f32⟩
  | 16 => ⟨S1024x1x256, .f32⟩
  | 17 => ⟨S1024x256, .f32⟩
  | 18 => ⟨S1024x512, .f32⟩
  | 19 => ⟨S1024x1280, .f32⟩
  | 20 => ⟨S1x1280, .f32⟩
  | 21 => ⟨S1024x1280, .f32⟩
  | 22 => ⟨S1024x1280, .f32⟩
  | 23 => ⟨S1024x256, .f32⟩
  | 24 => ⟨S1024x256, .f32⟩
  | 25 => ⟨S1024x256, .f32⟩
  | 26 => ⟨S_, .f32⟩
  | 27 => ⟨S1024x256, .f32⟩
  | 28 => ⟨S1024x256, .f32⟩
  | 29 => ⟨S_, .f32⟩
  | 30 => ⟨S1024x256, .f32⟩
  | 31 => ⟨S1024x256, .f32⟩
  | 32 => ⟨S1024x256, .f32⟩
  | 33 => ⟨S1024x256, .f32⟩
  | 34 => ⟨S1024x256, .f32⟩
  | 35 => ⟨S_, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S1024x256, .f32⟩
  | 42 => ⟨S1024x256, .f32⟩
  | 43 => ⟨S1024x256, .f32⟩
  | 44 => ⟨S1024x256, .f32⟩
  | 45 => ⟨S1024x256, .f32⟩
  | 46 => ⟨S_, .f32⟩
  | 47 => ⟨S1024x256, .f32⟩
  | 48 => ⟨S1024x256, .f32⟩
  | 49 => ⟨S_, .f32⟩
  | 50 => ⟨S1024x256, .f32⟩
  | 51 => ⟨S1024x256, .f32⟩
  | 52 => ⟨S1024x256, .f32⟩
  | 53 => ⟨S1024x256, .f32⟩
  | 54 => ⟨S1024x256, .f32⟩
  | 55 => ⟨S_, .f32⟩
  | 56 => ⟨S1024x256, .f32⟩
  | 57 => ⟨S1024x256, .f32⟩
  | 58 => ⟨S_, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S1024x256, .f32⟩
  | 66 => ⟨S1024x256, .f32⟩
  | 67 => ⟨S1024x256, .f32⟩
  | 68 => ⟨S512x2x256, .f32⟩
  | 69 => ⟨S512x2x256, .f32⟩
  | 70 => ⟨S512x1x256, .f32⟩
  | 71 => ⟨S512x256, .f32⟩
  | 72 => ⟨S512x1x256, .f32⟩
  | 73 => ⟨S512x256, .f32⟩
  | 74 => ⟨S512x1x256, .f32⟩
  | 75 => ⟨S512x256, .f32⟩
  | 76 => ⟨S512x1x256, .f32⟩
  | 77 => ⟨S512x256, .f32⟩
  | 78 => ⟨S512x512, .f32⟩
  | 79 => ⟨S512x1280, .f32⟩
  | 80 => ⟨S1x1280, .f32⟩
  | 81 => ⟨S512x1280, .f32⟩
  | 82 => ⟨S512x1280, .f32⟩
  | 83 => ⟨S512x256, .f32⟩
  | 84 => ⟨S512x256, .f32⟩
  | 85 => ⟨S512x256, .f32⟩
  | 86 => ⟨S_, .f32⟩
  | 87 => ⟨S512x256, .f32⟩
  | 88 => ⟨S512x256, .f32⟩
  | 89 => ⟨S_, .f32⟩
  | 90 => ⟨S512x256, .f32⟩
  | 91 => ⟨S512x256, .f32⟩
  | 92 => ⟨S512x256, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S512x256, .f32⟩
  | 102 => ⟨S512x256, .f32⟩
  | 103 => ⟨S512x256, .f32⟩
  | 104 => ⟨S512x256, .f32⟩
  | 105 => ⟨S512x256, .f32⟩
  | 106 => ⟨S_, .f32⟩
  | 107 => ⟨S512x256, .f32⟩
  | 108 => ⟨S512x256, .f32⟩
  | 109 => ⟨S_, .f32⟩
  | 110 => ⟨S512x256, .f32⟩
  | 111 => ⟨S512x256, .f32⟩
  | 112 => ⟨S512x256, .f32⟩
  | 113 => ⟨S512x256, .f32⟩
  | 114 => ⟨S512x256, .f32⟩
  | 115 => ⟨S_, .f32⟩
  | 116 => ⟨S512x256, .f32⟩
  | 117 => ⟨S512x256, .f32⟩
  | 118 => ⟨S_, .f32⟩
  | 119 => ⟨S512x256, .f32⟩
  | 120 => ⟨S512x256, .f32⟩
  | 121 => ⟨S512x256, .f32⟩
  | 122 => ⟨S512x256, .f32⟩
  | 123 => ⟨S512x256, .f32⟩
  | 124 => ⟨S512x256, .f32⟩
  | 125 => ⟨S512x256, .f32⟩
  | 126 => ⟨S512x256, .f32⟩
  | 127 => ⟨S512x256, .f32⟩
  | _ => ⟨S3072x256, .f32⟩

abbrev hbmTy0_1 (i : Nat) : BufTy := match i % 128 with
  | 0 => ⟨S256x2x256, .f32⟩
  | 1 => ⟨S256x2x256, .f32⟩
  | 2 => ⟨S256x1x256, .f32⟩
  | 3 => ⟨S256x256, .f32⟩
  | 4 => ⟨S256x1x256, .f32⟩
  | 5 => ⟨S256x256, .f32⟩
  | 6 => ⟨S256x1x256, .f32⟩
  | 7 => ⟨S256x256, .f32⟩
  | 8 => ⟨S256x1x256, .f32⟩
  | 9 => ⟨S256x256, .f32⟩
  | 10 => ⟨S256x512, .f32⟩
  | 11 => ⟨S256x1280, .f32⟩
  | 12 => ⟨S1x1280, .f32⟩
  | 13 => ⟨S256x1280, .f32⟩
  | 14 => ⟨S256x1280, .f32⟩
  | 15 => ⟨S256x256, .f32⟩
  | 16 => ⟨S256x256, .f32⟩
  | 17 => ⟨S256x256, .f32⟩
  | 18 => ⟨S_, .f32⟩
  | 19 => ⟨S256x256, .f32⟩
  | 20 => ⟨S256x256, .f32⟩
  | 21 => ⟨S_, .f32⟩
  | 22 => ⟨S256x256, .f32⟩
  | 23 => ⟨S256x256, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S_, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S256x256, .f32⟩
  | 45 => ⟨S256x256, .f32⟩
  | 46 => ⟨S256x256, .f32⟩
  | 47 => ⟨S_, .f32⟩
  | 48 => ⟨S256x256, .f32⟩
  | 49 => ⟨S256x256, .f32⟩
  | 50 => ⟨S_, .f32⟩
  | 51 => ⟨S256x256, .f32⟩
  | 52 => ⟨S256x256, .f32⟩
  | 53 => ⟨S256x256, .f32⟩
  | 54 => ⟨S256x256, .f32⟩
  | 55 => ⟨S256x256, .f32⟩
  | 56 => ⟨S256x256, .f32⟩
  | 57 => ⟨S256x256, .f32⟩
  | 58 => ⟨S256x256, .f32⟩
  | 59 => ⟨S256x256, .f32⟩
  | 60 => ⟨S128x2x256, .f32⟩
  | 61 => ⟨S128x2x256, .f32⟩
  | 62 => ⟨S128x1x256, .f32⟩
  | 63 => ⟨S128x256, .f32⟩
  | 64 => ⟨S128x1x256, .f32⟩
  | 65 => ⟨S128x256, .f32⟩
  | 66 => ⟨S128x1x256, .f32⟩
  | 67 => ⟨S128x256, .f32⟩
  | 68 => ⟨S128x1x256, .f32⟩
  | 69 => ⟨S128x256, .f32⟩
  | 70 => ⟨S128x512, .f32⟩
  | 71 => ⟨S128x1280, .f32⟩
  | 72 => ⟨S1x1280, .f32⟩
  | 73 => ⟨S128x1280, .f32⟩
  | 74 => ⟨S128x1280, .f32⟩
  | 75 => ⟨S128x256, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S128x256, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S_, .f32⟩
  | 91 => ⟨S128x256, .f32⟩
  | 92 => ⟨S128x256, .f32⟩
  | 93 => ⟨S128x256, .f32⟩
  | 94 => ⟨S128x256, .f32⟩
  | 95 => ⟨S128x256, .f32⟩
  | 96 => ⟨S128x256, .f32⟩
  | 97 => ⟨S128x256, .f32⟩
  | 98 => ⟨S_, .f32⟩
  | 99 => ⟨S128x256, .f32⟩
  | 100 => ⟨S128x256, .f32⟩
  | 101 => ⟨S_, .f32⟩
  | 102 => ⟨S128x256, .f32⟩
  | 103 => ⟨S128x256, .f32⟩
  | 104 => ⟨S128x256, .f32⟩
  | 105 => ⟨S128x256, .f32⟩
  | 106 => ⟨S128x256, .f32⟩
  | 107 => ⟨S_, .f32⟩
  | 108 => ⟨S128x256, .f32⟩
  | 109 => ⟨S128x256, .f32⟩
  | 110 => ⟨S_, .f32⟩
  | 111 => ⟨S128x256, .f32⟩
  | 112 => ⟨S128x256, .f32⟩
  | 113 => ⟨S128x256, .f32⟩
  | 114 => ⟨S128x256, .f32⟩
  | 115 => ⟨S128x256, .f32⟩
  | 116 => ⟨S128x256, .f32⟩
  | 117 => ⟨S128x256, .f32⟩
  | 118 => ⟨S128x256, .f32⟩
  | 119 => ⟨S128x256, .f32⟩
  | 120 => ⟨S64x2x256, .f32⟩
  | 121 => ⟨S64x2x256, .f32⟩
  | 122 => ⟨S64x1x256, .f32⟩
  | 123 => ⟨S64x256, .f32⟩
  | 124 => ⟨S64x1x256, .f32⟩
  | 125 => ⟨S64x256, .f32⟩
  | 126 => ⟨S64x1x256, .f32⟩
  | 127 => ⟨S64x256, .f32⟩
  | _ => ⟨S3072x256, .f32⟩

abbrev hbmTy0_2 (i : Nat) : BufTy := match i % 128 with
  | 0 => ⟨S64x1x256, .f32⟩
  | 1 => ⟨S64x256, .f32⟩
  | 2 => ⟨S64x512, .f32⟩
  | 3 => ⟨S64x1280, .f32⟩
  | 4 => ⟨S1x1280, .f32⟩
  | 5 => ⟨S64x1280, .f32⟩
  | 6 => ⟨S64x1280, .f32⟩
  | 7 => ⟨S64x256, .f32⟩
  | 8 => ⟨S64x256, .f32⟩
  | 9 => ⟨S64x256, .f32⟩
  | 10 => ⟨S_, .f32⟩
  | 11 => ⟨S64x256, .f32⟩
  | 12 => ⟨S64x256, .f32⟩
  | 13 => ⟨S_, .f32⟩
  | 14 => ⟨S64x256, .f32⟩
  | 15 => ⟨S64x256, .f32⟩
  | 16 => ⟨S64x256, .f32⟩
  | 17 => ⟨S64x256, .f32⟩
  | 18 => ⟨S64x256, .f32⟩
  | 19 => ⟨S_, .f32⟩
  | 20 => ⟨S64x256, .f32⟩
  | 21 => ⟨S64x256, .f32⟩
  | 22 => ⟨S_, .f32⟩
  | 23 => ⟨S64x256, .f32⟩
  | 24 => ⟨S64x256, .f32⟩
  | 25 => ⟨S64x256, .f32⟩
  | 26 => ⟨S64x256, .f32⟩
  | 27 => ⟨S64x256, .f32⟩
  | 28 => ⟨S64x256, .f32⟩
  | 29 => ⟨S64x256, .f32⟩
  | 30 => ⟨S_, .f32⟩
  | 31 => ⟨S64x256, .f32⟩
  | 32 => ⟨S64x256, .f32⟩
  | 33 => ⟨S_, .f32⟩
  | 34 => ⟨S64x256, .f32⟩
  | 35 => ⟨S64x256, .f32⟩
  | 36 => ⟨S64x256, .f32⟩
  | 37 => ⟨S64x256, .f32⟩
  | 38 => ⟨S64x256, .f32⟩
  | 39 => ⟨S_, .f32⟩
  | 40 => ⟨S64x256, .f32⟩
  | 41 => ⟨S64x256, .f32⟩
  | 42 => ⟨S_, .f32⟩
  | 43 => ⟨S64x256, .f32⟩
  | 44 => ⟨S64x256, .f32⟩
  | 45 => ⟨S64x256, .f32⟩
  | 46 => ⟨S64x256, .f32⟩
  | 47 => ⟨S64x256, .f32⟩
  | 48 => ⟨S64x256, .f32⟩
  | 49 => ⟨S64x256, .f32⟩
  | 50 => ⟨S64x256, .f32⟩
  | 51 => ⟨S64x256, .f32⟩
  | 52 => ⟨S32x2x256, .f32⟩
  | 53 => ⟨S32x2x256, .f32⟩
  | 54 => ⟨S32x1x256, .f32⟩
  | 55 => ⟨S32x256, .f32⟩
  | 56 => ⟨S32x1x256, .f32⟩
  | 57 => ⟨S32x256, .f32⟩
  | 58 => ⟨S32x1x256, .f32⟩
  | 59 => ⟨S32x256, .f32⟩
  | 60 => ⟨S32x1x256, .f32⟩
  | 61 => ⟨S32x256, .f32⟩
  | 62 => ⟨S32x512, .f32⟩
  | 63 => ⟨S32x1280, .f32⟩
  | 64 => ⟨S1x1280, .f32⟩
  | 65 => ⟨S32x1280, .f32⟩
  | 66 => ⟨S32x1280, .f32⟩
  | 67 => ⟨S32x256, .f32⟩
  | 68 => ⟨S32x256, .f32⟩
  | 69 => ⟨S32x256, .f32⟩
  | 70 => ⟨S_, .f32⟩
  | 71 => ⟨S32x256, .f32⟩
  | 72 => ⟨S32x256, .f32⟩
  | 73 => ⟨S_, .f32⟩
  | 74 => ⟨S32x256, .f32⟩
  | 75 => ⟨S32x256, .f32⟩
  | 76 => ⟨S32x256, .f32⟩
  | 77 => ⟨S32x256, .f32⟩
  | 78 => ⟨S32x256, .f32⟩
  | 79 => ⟨S_, .f32⟩
  | 80 => ⟨S32x256, .f32⟩
  | 81 => ⟨S32x256, .f32⟩
  | 82 => ⟨S_, .f32⟩
  | 83 => ⟨S32x256, .f32⟩
  | 84 => ⟨S32x256, .f32⟩
  | 85 => ⟨S32x256, .f32⟩
  | 86 => ⟨S32x256, .f32⟩
  | 87 => ⟨S32x256, .f32⟩
  | 88 => ⟨S32x256, .f32⟩
  | 89 => ⟨S32x256, .f32⟩
  | 90 => ⟨S_, .f32⟩
  | 91 => ⟨S32x256, .f32⟩
  | 92 => ⟨S32x256, .f32⟩
  | 93 => ⟨S_, .f32⟩
  | 94 => ⟨S32x256, .f32⟩
  | 95 => ⟨S32x256, .f32⟩
  | 96 => ⟨S32x256, .f32⟩
  | 97 => ⟨S32x256, .f32⟩
  | 98 => ⟨S32x256, .f32⟩
  | 99 => ⟨S_, .f32⟩
  | 100 => ⟨S32x256, .f32⟩
  | 101 => ⟨S32x256, .f32⟩
  | 102 => ⟨S_, .f32⟩
  | 103 => ⟨S32x256, .f32⟩
  | 104 => ⟨S32x256, .f32⟩
  | 105 => ⟨S32x256, .f32⟩
  | 106 => ⟨S32x256, .f32⟩
  | 107 => ⟨S32x256, .f32⟩
  | 108 => ⟨S32x256, .f32⟩
  | 109 => ⟨S32x256, .f32⟩
  | 110 => ⟨S32x256, .f32⟩
  | 111 => ⟨S32x256, .f32⟩
  | 112 => ⟨S16x2x256, .f32⟩
  | 113 => ⟨S16x2x256, .f32⟩
  | 114 => ⟨S16x1x256, .f32⟩
  | 115 => ⟨S16x256, .f32⟩
  | 116 => ⟨S16x1x256, .f32⟩
  | 117 => ⟨S16x256, .f32⟩
  | 118 => ⟨S16x1x256, .f32⟩
  | 119 => ⟨S16x256, .f32⟩
  | 120 => ⟨S16x1x256, .f32⟩
  | 121 => ⟨S16x256, .f32⟩
  | 122 => ⟨S16x512, .f32⟩
  | 123 => ⟨S16x1280, .f32⟩
  | 124 => ⟨S1x1280, .f32⟩
  | 125 => ⟨S16x1280, .f32⟩
  | 126 => ⟨S16x1280, .f32⟩
  | 127 => ⟨S16x256, .f32⟩
  | _ => ⟨S3072x256, .f32⟩

abbrev hbmTy0_3 (i : Nat) : BufTy := match i % 128 with
  | 0 => ⟨S16x256, .f32⟩
  | 1 => ⟨S16x256, .f32⟩
  | 2 => ⟨S_, .f32⟩
  | 3 => ⟨S16x256, .f32⟩
  | 4 => ⟨S16x256, .f32⟩
  | 5 => ⟨S_, .f32⟩
  | 6 => ⟨S16x256, .f32⟩
  | 7 => ⟨S16x256, .f32⟩
  | 8 => ⟨S16x256, .f32⟩
  | 9 => ⟨S16x256, .f32⟩
  | 10 => ⟨S16x256, .f32⟩
  | 11 => ⟨S_, .f32⟩
  | 12 => ⟨S16x256, .f32⟩
  | 13 => ⟨S16x256, .f32⟩
  | 14 => ⟨S_, .f32⟩
  | 15 => ⟨S16x256, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S16x256, .f32⟩
  | 22 => ⟨S_, .f32⟩
  | 23 => ⟨S16x256, .f32⟩
  | 24 => ⟨S16x256, .f32⟩
  | 25 => ⟨S_, .f32⟩
  | 26 => ⟨S16x256, .f32⟩
  | 27 => ⟨S16x256, .f32⟩
  | 28 => ⟨S16x256, .f32⟩
  | 29 => ⟨S16x256, .f32⟩
  | 30 => ⟨S16x256, .f32⟩
  | 31 => ⟨S_, .f32⟩
  | 32 => ⟨S16x256, .f32⟩
  | 33 => ⟨S16x256, .f32⟩
  | 34 => ⟨S_, .f32⟩
  | 35 => ⟨S16x256, .f32⟩
  | 36 => ⟨S16x256, .f32⟩
  | 37 => ⟨S16x256, .f32⟩
  | 38 => ⟨S16x256, .f32⟩
  | 39 => ⟨S16x256, .f32⟩
  | 40 => ⟨S16x256, .f32⟩
  | 41 => ⟨S16x256, .f32⟩
  | 42 => ⟨S16x256, .f32⟩
  | 43 => ⟨S16x256, .f32⟩
  | 44 => ⟨S8x2x256, .f32⟩
  | 45 => ⟨S8x2x256, .f32⟩
  | 46 => ⟨S8x1x256, .f32⟩
  | 47 => ⟨S8x256, .f32⟩
  | 48 => ⟨S8x1x256, .f32⟩
  | 49 => ⟨S8x256, .f32⟩
  | 50 => ⟨S8x1x256, .f32⟩
  | 51 => ⟨S8x256, .f32⟩
  | 52 => ⟨S8x1x256, .f32⟩
  | 53 => ⟨S8x256, .f32⟩
  | 54 => ⟨S8x512, .f32⟩
  | 55 => ⟨S8x1280, .f32⟩
  | 56 => ⟨S1x1280, .f32⟩
  | 57 => ⟨S8x1280, .f32⟩
  | 58 => ⟨S8x1280, .f32⟩
  | 59 => ⟨S8x256, .f32⟩
  | 60 => ⟨S8x256, .f32⟩
  | 61 => ⟨S8x256, .f32⟩
  | 62 => ⟨S_, .f32⟩
  | 63 => ⟨S8x256, .f32⟩
  | 64 => ⟨S8x256, .f32⟩
  | 65 => ⟨S_, .f32⟩
  | 66 => ⟨S8x256, .f32⟩
  | 67 => ⟨S8x256, .f32⟩
  | 68 => ⟨S8x256, .f32⟩
  | 69 => ⟨S8x256, .f32⟩
  | 70 => ⟨S8x256, .f32⟩
  | 71 => ⟨S_, .f32⟩
  | 72 => ⟨S8x256, .f32⟩
  | 73 => ⟨S8x256, .f32⟩
  | 74 => ⟨S_, .f32⟩
  | 75 => ⟨S8x256, .f32⟩
  | 76 => ⟨S8x256, .f32⟩
  | 77 => ⟨S8x256, .f32⟩
  | 78 => ⟨S8x256, .f32⟩
  | 79 => ⟨S8x256, .f32⟩
  | 80 => ⟨S8x256, .f32⟩
  | 81 => ⟨S8x256, .f32⟩
  | 82 => ⟨S_, .f32⟩
  | 83 => ⟨S8x256, .f32⟩
  | 84 => ⟨S8x256, .f32⟩
  | 85 => ⟨S_, .f32⟩
  | 86 => ⟨S8x256, .f32⟩
  | 87 => ⟨S8x256, .f32⟩
  | 88 => ⟨S8x256, .f32⟩
  | 89 => ⟨S8x256, .f32⟩
  | 90 => ⟨S8x256, .f32⟩
  | 91 => ⟨S_, .f32⟩
  | 92 => ⟨S8x256, .f32⟩
  | 93 => ⟨S8x256, .f32⟩
  | 94 => ⟨S_, .f32⟩
  | 95 => ⟨S8x256, .f32⟩
  | 96 => ⟨S8x256, .f32⟩
  | 97 => ⟨S8x256, .f32⟩
  | 98 => ⟨S8x256, .f32⟩
  | 99 => ⟨S8x256, .f32⟩
  | 100 => ⟨S8x256, .f32⟩
  | 101 => ⟨S8x256, .f32⟩
  | 102 => ⟨S8x256, .f32⟩
  | 103 => ⟨S8x256, .f32⟩
  | 104 => ⟨S4x2x256, .f32⟩
  | 105 => ⟨S4x2x256, .f32⟩
  | 106 => ⟨S4x1x256, .f32⟩
  | 107 => ⟨S4x256, .f32⟩
  | 108 => ⟨S4x1x256, .f32⟩
  | 109 => ⟨S4x256, .f32⟩
  | 110 => ⟨S4x1x256, .f32⟩
  | 111 => ⟨S4x256, .f32⟩
  | 112 => ⟨S4x1x256, .f32⟩
  | 113 => ⟨S4x256, .f32⟩
  | 114 => ⟨S4x512, .f32⟩
  | 115 => ⟨S4x1280, .f32⟩
  | 116 => ⟨S1x1280, .f32⟩
  | 117 => ⟨S4x1280, .f32⟩
  | 118 => ⟨S4x1280, .f32⟩
  | 119 => ⟨S4x256, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S_, .f32⟩
  | 126 => ⟨S4x256, .f32⟩
  | 127 => ⟨S4x256, .f32⟩
  | _ => ⟨S3072x256, .f32⟩

abbrev hbmTy0_4 (i : Nat) : BufTy := match i % 128 with
  | 0 => ⟨S4x256, .f32⟩
  | 1 => ⟨S4x256, .f32⟩
  | 2 => ⟨S4x256, .f32⟩
  | 3 => ⟨S_, .f32⟩
  | 4 => ⟨S4x256, .f32⟩
  | 5 => ⟨S4x256, .f32⟩
  | 6 => ⟨S_, .f32⟩
  | 7 => ⟨S4x256, .f32⟩
  | 8 => ⟨S4x256, .f32⟩
  | 9 => ⟨S4x256, .f32⟩
  | 10 => ⟨S4x256, .f32⟩
  | 11 => ⟨S4x256, .f32⟩
  | 12 => ⟨S4x256, .f32⟩
  | 13 => ⟨S4x256, .f32⟩
  | 14 => ⟨S_, .f32⟩
  | 15 => ⟨S4x256, .f32⟩
  | 16 => ⟨S4x256, .f32⟩
  | 17 => ⟨S_, .f32⟩
  | 18 => ⟨S4x256, .f32⟩
  | 19 => ⟨S4x256, .f32⟩
  | 20 => ⟨S4x256, .f32⟩
  | 21 => ⟨S4x256, .f32⟩
  | 22 => ⟨S4x256, .f32⟩
  | 23 => ⟨S_, .f32⟩
  | 24 => ⟨S4x256, .f32⟩
  | 25 => ⟨S4x256, .f32⟩
  | 26 => ⟨S_, .f32⟩
  | 27 => ⟨S4x256, .f32⟩
  | 28 => ⟨S4x256, .f32⟩
  | 29 => ⟨S4x256, .f32⟩
  | 30 => ⟨S4x256, .f32⟩
  | 31 => ⟨S4x256, .f32⟩
  | 32 => ⟨S4x256, .f32⟩
  | 33 => ⟨S4x256, .f32⟩
  | 34 => ⟨S4x256, .f32⟩
  | 35 => ⟨S4x256, .f32⟩
  | 36 => ⟨S2x2x256, .f32⟩
  | 37 => ⟨S2x2x256, .f32⟩
  | 38 => ⟨S2x1x256, .f32⟩
  | 39 => ⟨S2x256, .f32⟩
  | 40 => ⟨S2x1x256, .f32⟩
  | 41 => ⟨S2x256, .f32⟩
  | 42 => ⟨S2x1x256, .f32⟩
  | 43 => ⟨S2x256, .f32⟩
  | 44 => ⟨S2x1x256, .f32⟩
  | 45 => ⟨S2x256, .f32⟩
  | 46 => ⟨S2x512, .f32⟩
  | 47 => ⟨S2x1280, .f32⟩
  | 48 => ⟨S1x1280, .f32⟩
  | 49 => ⟨S2x1280, .f32⟩
  | 50 => ⟨S2x1280, .f32⟩
  | 51 => ⟨S2x256, .f32⟩
  | 52 => ⟨S2x256, .f32⟩
  | 53 => ⟨S2x256, .f32⟩
  | 54 => ⟨S_, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S2x256, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S_, .f32⟩
  | 67 => ⟨S2x256, .f32⟩
  | 68 => ⟨S2x256, .f32⟩
  | 69 => ⟨S2x256, .f32⟩
  | 70 => ⟨S2x256, .f32⟩
  | 71 => ⟨S2x256, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S_, .f32⟩
  | 78 => ⟨S2x256, .f32⟩
  | 79 => ⟨S2x256, .f32⟩
  | 80 => ⟨S2x256, .f32⟩
  | 81 => ⟨S2x256, .f32⟩
  | 82 => ⟨S2x256, .f32⟩
  | 83 => ⟨S_, .f32⟩
  | 84 => ⟨S2x256, .f32⟩
  | 85 => ⟨S2x256, .f32⟩
  | 86 => ⟨S_, .f32⟩
  | 87 => ⟨S2x256, .f32⟩
  | 88 => ⟨S2x256, .f32⟩
  | 89 => ⟨S2x256, .f32⟩
  | 90 => ⟨S2x256, .f32⟩
  | 91 => ⟨S2x256, .f32⟩
  | 92 => ⟨S2x256, .f32⟩
  | 93 => ⟨S2x256, .f32⟩
  | 94 => ⟨S2x256, .f32⟩
  | 95 => ⟨S2x256, .f32⟩
  | 96 => ⟨S1x2x256, .f32⟩
  | 97 => ⟨S1x2x256, .f32⟩
  | 98 => ⟨S1x1x256, .f32⟩
  | 99 => ⟨S1x256, .f32⟩
  | 100 => ⟨S1x1x256, .f32⟩
  | 101 => ⟨S1x256, .f32⟩
  | 102 => ⟨S1x1x256, .f32⟩
  | 103 => ⟨S1x256, .f32⟩
  | 104 => ⟨S1x1x256, .f32⟩
  | 105 => ⟨S1x256, .f32⟩
  | 106 => ⟨S1x512, .f32⟩
  | 107 => ⟨S1x1280, .f32⟩
  | 108 => ⟨S1x1280, .f32⟩
  | 109 => ⟨S1x1280, .f32⟩
  | 110 => ⟨S1x256, .f32⟩
  | 111 => ⟨S1x256, .f32⟩
  | 112 => ⟨S1x256, .f32⟩
  | 113 => ⟨S_, .f32⟩
  | 114 => ⟨S1x256, .f32⟩
  | 115 => ⟨S1x256, .f32⟩
  | 116 => ⟨S_, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S3072x256, .f32⟩

abbrev hbmTy0_5 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S_, .f32⟩
  | 9 => ⟨S1x256, .f32⟩
  | 10 => ⟨S1x256, .f32⟩
  | 11 => ⟨S1x256, .f32⟩
  | 12 => ⟨S1x256, .f32⟩
  | 13 => ⟨S1x256, .f32⟩
  | 14 => ⟨S_, .f32⟩
  | 15 => ⟨S1x256, .f32⟩
  | 16 => ⟨S1x256, .f32⟩
  | 17 => ⟨S_, .f32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S1x256, .f32⟩
  | 27 => ⟨S1024x256, .f32⟩
  | 28 => ⟨S1024x256, .f32⟩
  | 29 => ⟨S512x2x256, .f32⟩
  | 30 => ⟨S512x2x256, .f32⟩
  | 31 => ⟨S512x1x256, .f32⟩
  | 32 => ⟨S512x256, .f32⟩
  | 33 => ⟨S512x1x256, .f32⟩
  | 34 => ⟨S512x256, .f32⟩
  | 35 => ⟨S512x1x256, .f32⟩
  | 36 => ⟨S512x256, .f32⟩
  | 37 => ⟨S512x1x256, .f32⟩
  | 38 => ⟨S512x256, .f32⟩
  | 39 => ⟨S512x512, .f32⟩
  | 40 => ⟨S512x1280, .f32⟩
  | 41 => ⟨S1x1280, .f32⟩
  | 42 => ⟨S512x1280, .f32⟩
  | 43 => ⟨S512x1280, .f32⟩
  | 44 => ⟨S512x256, .f32⟩
  | 45 => ⟨S512x256, .f32⟩
  | 46 => ⟨S512x256, .f32⟩
  | 47 => ⟨S_, .f32⟩
  | 48 => ⟨S512x256, .f32⟩
  | 49 => ⟨S512x256, .f32⟩
  | 50 => ⟨S_, .f32⟩
  | 51 => ⟨S512x256, .f32⟩
  | 52 => ⟨S512x256, .f32⟩
  | 53 => ⟨S512x256, .f32⟩
  | 54 => ⟨S512x256, .f32⟩
  | 55 => ⟨S512x256, .f32⟩
  | 56 => ⟨S_, .f32⟩
  | 57 => ⟨S512x256, .f32⟩
  | 58 => ⟨S512x256, .f32⟩
  | 59 => ⟨S_, .f32⟩
  | 60 => ⟨S512x256, .f32⟩
  | 61 => ⟨S512x256, .f32⟩
  | 62 => ⟨S512x256, .f32⟩
  | 63 => ⟨S512x256, .f32⟩
  | 64 => ⟨S512x256, .f32⟩
  | 65 => ⟨S512x256, .f32⟩
  | 66 => ⟨S512x256, .f32⟩
  | 67 => ⟨S_, .f32⟩
  | 68 => ⟨S512x256, .f32⟩
  | 69 => ⟨S512x256, .f32⟩
  | 70 => ⟨S_, .f32⟩
  | 71 => ⟨S512x256, .f32⟩
  | 72 => ⟨S512x256, .f32⟩
  | 73 => ⟨S512x256, .f32⟩
  | 74 => ⟨S512x256, .f32⟩
  | 75 => ⟨S512x256, .f32⟩
  | 76 => ⟨S_, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S512x256, .f32⟩
  | 83 => ⟨S512x256, .f32⟩
  | 84 => ⟨S512x256, .f32⟩
  | 85 => ⟨S512x256, .f32⟩
  | 86 => ⟨S512x256, .f32⟩
  | 87 => ⟨S512x256, .f32⟩
  | 88 => ⟨S512x256, .f32⟩
  | 89 => ⟨S256x2x256, .f32⟩
  | 90 => ⟨S256x2x256, .f32⟩
  | 91 => ⟨S256x1x256, .f32⟩
  | 92 => ⟨S256x256, .f32⟩
  | 93 => ⟨S256x1x256, .f32⟩
  | 94 => ⟨S256x256, .f32⟩
  | 95 => ⟨S256x1x256, .f32⟩
  | 96 => ⟨S256x256, .f32⟩
  | 97 => ⟨S256x1x256, .f32⟩
  | 98 => ⟨S256x256, .f32⟩
  | 99 => ⟨S256x512, .f32⟩
  | 100 => ⟨S256x1280, .f32⟩
  | 101 => ⟨S1x1280, .f32⟩
  | 102 => ⟨S256x1280, .f32⟩
  | 103 => ⟨S256x1280, .f32⟩
  | 104 => ⟨S256x256, .f32⟩
  | 105 => ⟨S256x256, .f32⟩
  | 106 => ⟨S256x256, .f32⟩
  | 107 => ⟨S_, .f32⟩
  | 108 => ⟨S256x256, .f32⟩
  | 109 => ⟨S256x256, .f32⟩
  | 110 => ⟨S_, .f32⟩
  | 111 => ⟨S256x256, .f32⟩
  | 112 => ⟨S256x256, .f32⟩
  | 113 => ⟨S256x256, .f32⟩
  | 114 => ⟨S256x256, .f32⟩
  | 115 => ⟨S256x256, .f32⟩
  | 116 => ⟨S_, .f32⟩
  | 117 => ⟨S256x256, .f32⟩
  | 118 => ⟨S256x256, .f32⟩
  | 119 => ⟨S_, .f32⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S_, .f32⟩
  | _ => ⟨S3072x256, .f32⟩

abbrev hbmTy0_6 (i : Nat) : BufTy := match i % 128 with
  | 0 => ⟨S256x256, .f32⟩
  | 1 => ⟨S256x256, .f32⟩
  | 2 => ⟨S_, .f32⟩
  | 3 => ⟨S256x256, .f32⟩
  | 4 => ⟨S256x256, .f32⟩
  | 5 => ⟨S256x256, .f32⟩
  | 6 => ⟨S256x256, .f32⟩
  | 7 => ⟨S256x256, .f32⟩
  | 8 => ⟨S_, .f32⟩
  | 9 => ⟨S256x256, .f32⟩
  | 10 => ⟨S256x256, .f32⟩
  | 11 => ⟨S_, .f32⟩
  | 12 => ⟨S256x256, .f32⟩
  | 13 => ⟨S256x256, .f32⟩
  | 14 => ⟨S256x256, .f32⟩
  | 15 => ⟨S256x256, .f32⟩
  | 16 => ⟨S256x256, .f32⟩
  | 17 => ⟨S256x256, .f32⟩
  | 18 => ⟨S256x256, .f32⟩
  | 19 => ⟨S256x256, .f32⟩
  | 20 => ⟨S256x256, .f32⟩
  | 21 => ⟨S128x2x256, .f32⟩
  | 22 => ⟨S128x2x256, .f32⟩
  | 23 => ⟨S128x1x256, .f32⟩
  | 24 => ⟨S128x256, .f32⟩
  | 25 => ⟨S128x1x256, .f32⟩
  | 26 => ⟨S128x256, .f32⟩
  | 27 => ⟨S128x1x256, .f32⟩
  | 28 => ⟨S128x256, .f32⟩
  | 29 => ⟨S128x1x256, .f32⟩
  | 30 => ⟨S128x256, .f32⟩
  | 31 => ⟨S128x512, .f32⟩
  | 32 => ⟨S128x1280, .f32⟩
  | 33 => ⟨S1x1280, .f32⟩
  | 34 => ⟨S128x1280, .f32⟩
  | 35 => ⟨S128x1280, .f32⟩
  | 36 => ⟨S128x256, .f32⟩
  | 37 => ⟨S128x256, .f32⟩
  | 38 => ⟨S128x256, .f32⟩
  | 39 => ⟨S_, .f32⟩
  | 40 => ⟨S128x256, .f32⟩
  | 41 => ⟨S128x256, .f32⟩
  | 42 => ⟨S_, .f32⟩
  | 43 => ⟨S128x256, .f32⟩
  | 44 => ⟨S128x256, .f32⟩
  | 45 => ⟨S128x256, .f32⟩
  | 46 => ⟨S128x256, .f32⟩
  | 47 => ⟨S128x256, .f32⟩
  | 48 => ⟨S_, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S128x256, .f32⟩
  | 55 => ⟨S128x256, .f32⟩
  | 56 => ⟨S128x256, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S_, .f32⟩
  | 63 => ⟨S128x256, .f32⟩
  | 64 => ⟨S128x256, .f32⟩
  | 65 => ⟨S128x256, .f32⟩
  | 66 => ⟨S128x256, .f32⟩
  | 67 => ⟨S128x256, .f32⟩
  | 68 => ⟨S_, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S128x256, .f32⟩
  | 75 => ⟨S128x256, .f32⟩
  | 76 => ⟨S128x256, .f32⟩
  | 77 => ⟨S128x256, .f32⟩
  | 78 => ⟨S128x256, .f32⟩
  | 79 => ⟨S128x256, .f32⟩
  | 80 => ⟨S128x256, .f32⟩
  | 81 => ⟨S64x2x256, .f32⟩
  | 82 => ⟨S64x2x256, .f32⟩
  | 83 => ⟨S64x1x256, .f32⟩
  | 84 => ⟨S64x256, .f32⟩
  | 85 => ⟨S64x1x256, .f32⟩
  | 86 => ⟨S64x256, .f32⟩
  | 87 => ⟨S64x1x256, .f32⟩
  | 88 => ⟨S64x256, .f32⟩
  | 89 => ⟨S64x1x256, .f32⟩
  | 90 => ⟨S64x256, .f32⟩
  | 91 => ⟨S64x512, .f32⟩
  | 92 => ⟨S64x1280, .f32⟩
  | 93 => ⟨S1x1280, .f32⟩
  | 94 => ⟨S64x1280, .f32⟩
  | 95 => ⟨S64x1280, .f32⟩
  | 96 => ⟨S64x256, .f32⟩
  | 97 => ⟨S64x256, .f32⟩
  | 98 => ⟨S64x256, .f32⟩
  | 99 => ⟨S_, .f32⟩
  | 100 => ⟨S64x256, .f32⟩
  | 101 => ⟨S64x256, .f32⟩
  | 102 => ⟨S_, .f32⟩
  | 103 => ⟨S64x256, .f32⟩
  | 104 => ⟨S64x256, .f32⟩
  | 105 => ⟨S64x256, .f32⟩
  | 106 => ⟨S64x256, .f32⟩
  | 107 => ⟨S64x256, .f32⟩
  | 108 => ⟨S_, .f32⟩
  | 109 => ⟨S64x256, .f32⟩
  | 110 => ⟨S64x256, .f32⟩
  | 111 => ⟨S_, .f32⟩
  | 112 => ⟨S64x256, .f32⟩
  | 113 => ⟨S64x256, .f32⟩
  | 114 => ⟨S64x256, .f32⟩
  | 115 => ⟨S64x256, .f32⟩
  | 116 => ⟨S64x256, .f32⟩
  | 117 => ⟨S64x256, .f32⟩
  | 118 => ⟨S64x256, .f32⟩
  | 119 => ⟨S_, .f32⟩
  | 120 => ⟨S64x256, .f32⟩
  | 121 => ⟨S64x256, .f32⟩
  | 122 => ⟨S_, .f32⟩
  | 123 => ⟨S64x256, .f32⟩
  | 124 => ⟨S64x256, .f32⟩
  | 125 => ⟨S64x256, .f32⟩
  | 126 => ⟨S64x256, .f32⟩
  | 127 => ⟨S64x256, .f32⟩
  | _ => ⟨S3072x256, .f32⟩

abbrev hbmTy0_7 (i : Nat) : BufTy := match i % 128 with
  | 0 => ⟨S_, .f32⟩
  | 1 => ⟨S64x256, .f32⟩
  | 2 => ⟨S64x256, .f32⟩
  | 3 => ⟨S_, .f32⟩
  | 4 => ⟨S64x256, .f32⟩
  | 5 => ⟨S64x256, .f32⟩
  | 6 => ⟨S64x256, .f32⟩
  | 7 => ⟨S64x256, .f32⟩
  | 8 => ⟨S64x256, .f32⟩
  | 9 => ⟨S64x256, .f32⟩
  | 10 => ⟨S64x256, .f32⟩
  | 11 => ⟨S64x256, .f32⟩
  | 12 => ⟨S64x256, .f32⟩
  | 13 => ⟨S32x2x256, .f32⟩
  | 14 => ⟨S32x2x256, .f32⟩
  | 15 => ⟨S32x1x256, .f32⟩
  | 16 => ⟨S32x256, .f32⟩
  | 17 => ⟨S32x1x256, .f32⟩
  | 18 => ⟨S32x256, .f32⟩
  | 19 => ⟨S32x1x256, .f32⟩
  | 20 => ⟨S32x256, .f32⟩
  | 21 => ⟨S32x1x256, .f32⟩
  | 22 => ⟨S32x256, .f32⟩
  | 23 => ⟨S32x512, .f32⟩
  | 24 => ⟨S32x1280, .f32⟩
  | 25 => ⟨S1x1280, .f32⟩
  | 26 => ⟨S32x1280, .f32⟩
  | 27 => ⟨S32x1280, .f32⟩
  | 28 => ⟨S32x256, .f32⟩
  | 29 => ⟨S32x256, .f32⟩
  | 30 => ⟨S32x256, .f32⟩
  | 31 => ⟨S_, .f32⟩
  | 32 => ⟨S32x256, .f32⟩
  | 33 => ⟨S32x256, .f32⟩
  | 34 => ⟨S_, .f32⟩
  | 35 => ⟨S32x256, .f32⟩
  | 36 => ⟨S32x256, .f32⟩
  | 37 => ⟨S32x256, .f32⟩
  | 38 => ⟨S32x256, .f32⟩
  | 39 => ⟨S32x256, .f32⟩
  | 40 => ⟨S_, .f32⟩
  | 41 => ⟨S32x256, .f32⟩
  | 42 => ⟨S32x256, .f32⟩
  | 43 => ⟨S_, .f32⟩
  | 44 => ⟨S32x256, .f32⟩
  | 45 => ⟨S32x256, .f32⟩
  | 46 => ⟨S32x256, .f32⟩
  | 47 => ⟨S32x256, .f32⟩
  | 48 => ⟨S32x256, .f32⟩
  | 49 => ⟨S32x256, .f32⟩
  | 50 => ⟨S32x256, .f32⟩
  | 51 => ⟨S_, .f32⟩
  | 52 => ⟨S32x256, .f32⟩
  | 53 => ⟨S32x256, .f32⟩
  | 54 => ⟨S_, .f32⟩
  | 55 => ⟨S32x256, .f32⟩
  | 56 => ⟨S32x256, .f32⟩
  | 57 => ⟨S32x256, .f32⟩
  | 58 => ⟨S32x256, .f32⟩
  | 59 => ⟨S32x256, .f32⟩
  | 60 => ⟨S_, .f32⟩
  | 61 => ⟨S32x256, .f32⟩
  | 62 => ⟨S32x256, .f32⟩
  | 63 => ⟨S_, .f32⟩
  | 64 => ⟨S32x256, .f32⟩
  | 65 => ⟨S32x256, .f32⟩
  | 66 => ⟨S32x256, .f32⟩
  | 67 => ⟨S32x256, .f32⟩
  | 68 => ⟨S32x256, .f32⟩
  | 69 => ⟨S32x256, .f32⟩
  | 70 => ⟨S32x256, .f32⟩
  | 71 => ⟨S32x256, .f32⟩
  | 72 => ⟨S32x256, .f32⟩
  | 73 => ⟨S16x2x256, .f32⟩
  | 74 => ⟨S16x2x256, .f32⟩
  | 75 => ⟨S16x1x256, .f32⟩
  | 76 => ⟨S16x256, .f32⟩
  | 77 => ⟨S16x1x256, .f32⟩
  | 78 => ⟨S16x256, .f32⟩
  | 79 => ⟨S16x1x256, .f32⟩
  | 80 => ⟨S16x256, .f32⟩
  | 81 => ⟨S16x1x256, .f32⟩
  | 82 => ⟨S16x256, .f32⟩
  | 83 => ⟨S16x512, .f32⟩
  | 84 => ⟨S16x1280, .f32⟩
  | 85 => ⟨S1x1280, .f32⟩
  | 86 => ⟨S16x1280, .f32⟩
  | 87 => ⟨S16x1280, .f32⟩
  | 88 => ⟨S16x256, .f32⟩
  | 89 => ⟨S16x256, .f32⟩
  | 90 => ⟨S16x256, .f32⟩
  | 91 => ⟨S_, .f32⟩
  | 92 => ⟨S16x256, .f32⟩
  | 93 => ⟨S16x256, .f32⟩
  | 94 => ⟨S_, .f32⟩
  | 95 => ⟨S16x256, .f32⟩
  | 96 => ⟨S16x256, .f32⟩
  | 97 => ⟨S16x256, .f32⟩
  | 98 => ⟨S16x256, .f32⟩
  | 99 => ⟨S16x256, .f32⟩
  | 100 => ⟨S_, .f32⟩
  | 101 => ⟨S16x256, .f32⟩
  | 102 => ⟨S16x256, .f32⟩
  | 103 => ⟨S_, .f32⟩
  | 104 => ⟨S16x256, .f32⟩
  | 105 => ⟨S16x256, .f32⟩
  | 106 => ⟨S16x256, .f32⟩
  | 107 => ⟨S16x256, .f32⟩
  | 108 => ⟨S16x256, .f32⟩
  | 109 => ⟨S16x256, .f32⟩
  | 110 => ⟨S16x256, .f32⟩
  | 111 => ⟨S_, .f32⟩
  | 112 => ⟨S16x256, .f32⟩
  | 113 => ⟨S16x256, .f32⟩
  | 114 => ⟨S_, .f32⟩
  | 115 => ⟨S16x256, .f32⟩
  | 116 => ⟨S16x256, .f32⟩
  | 117 => ⟨S16x256, .f32⟩
  | 118 => ⟨S16x256, .f32⟩
  | 119 => ⟨S16x256, .f32⟩
  | 120 => ⟨S_, .f32⟩
  | 121 => ⟨S16x256, .f32⟩
  | 122 => ⟨S16x256, .f32⟩
  | 123 => ⟨S_, .f32⟩
  | 124 => ⟨S16x256, .f32⟩
  | 125 => ⟨S16x256, .f32⟩
  | 126 => ⟨S16x256, .f32⟩
  | 127 => ⟨S16x256, .f32⟩
  | _ => ⟨S3072x256, .f32⟩

abbrev hbmTy0_8 (i : Nat) : BufTy := match i % 128 with
  | 0 => ⟨S16x256, .f32⟩
  | 1 => ⟨S16x256, .f32⟩
  | 2 => ⟨S16x256, .f32⟩
  | 3 => ⟨S16x256, .f32⟩
  | 4 => ⟨S16x256, .f32⟩
  | 5 => ⟨S8x2x256, .f32⟩
  | 6 => ⟨S8x2x256, .f32⟩
  | 7 => ⟨S8x1x256, .f32⟩
  | 8 => ⟨S8x256, .f32⟩
  | 9 => ⟨S8x1x256, .f32⟩
  | 10 => ⟨S8x256, .f32⟩
  | 11 => ⟨S8x1x256, .f32⟩
  | 12 => ⟨S8x256, .f32⟩
  | 13 => ⟨S8x1x256, .f32⟩
  | 14 => ⟨S8x256, .f32⟩
  | 15 => ⟨S8x512, .f32⟩
  | 16 => ⟨S8x1280, .f32⟩
  | 17 => ⟨S1x1280, .f32⟩
  | 18 => ⟨S8x1280, .f32⟩
  | 19 => ⟨S8x1280, .f32⟩
  | 20 => ⟨S8x256, .f32⟩
  | 21 => ⟨S8x256, .f32⟩
  | 22 => ⟨S8x256, .f32⟩
  | 23 => ⟨S_, .f32⟩
  | 24 => ⟨S8x256, .f32⟩
  | 25 => ⟨S8x256, .f32⟩
  | 26 => ⟨S_, .f32⟩
  | 27 => ⟨S8x256, .f32⟩
  | 28 => ⟨S8x256, .f32⟩
  | 29 => ⟨S8x256, .f32⟩
  | 30 => ⟨S8x256, .f32⟩
  | 31 => ⟨S8x256, .f32⟩
  | 32 => ⟨S_, .f32⟩
  | 33 => ⟨S8x256, .f32⟩
  | 34 => ⟨S8x256, .f32⟩
  | 35 => ⟨S_, .f32⟩
  | 36 => ⟨S8x256, .f32⟩
  | 37 => ⟨S8x256, .f32⟩
  | 38 => ⟨S8x256, .f32⟩
  | 39 => ⟨S8x256, .f32⟩
  | 40 => ⟨S8x256, .f32⟩
  | 41 => ⟨S8x256, .f32⟩
  | 42 => ⟨S8x256, .f32⟩
  | 43 => ⟨S_, .f32⟩
  | 44 => ⟨S8x256, .f32⟩
  | 45 => ⟨S8x256, .f32⟩
  | 46 => ⟨S_, .f32⟩
  | 47 => ⟨S8x256, .f32⟩
  | 48 => ⟨S8x256, .f32⟩
  | 49 => ⟨S8x256, .f32⟩
  | 50 => ⟨S8x256, .f32⟩
  | 51 => ⟨S8x256, .f32⟩
  | 52 => ⟨S_, .f32⟩
  | 53 => ⟨S8x256, .f32⟩
  | 54 => ⟨S8x256, .f32⟩
  | 55 => ⟨S_, .f32⟩
  | 56 => ⟨S8x256, .f32⟩
  | 57 => ⟨S8x256, .f32⟩
  | 58 => ⟨S8x256, .f32⟩
  | 59 => ⟨S8x256, .f32⟩
  | 60 => ⟨S8x256, .f32⟩
  | 61 => ⟨S8x256, .f32⟩
  | 62 => ⟨S8x256, .f32⟩
  | 63 => ⟨S8x256, .f32⟩
  | 64 => ⟨S8x256, .f32⟩
  | 65 => ⟨S4x2x256, .f32⟩
  | 66 => ⟨S4x2x256, .f32⟩
  | 67 => ⟨S4x1x256, .f32⟩
  | 68 => ⟨S4x256, .f32⟩
  | 69 => ⟨S4x1x256, .f32⟩
  | 70 => ⟨S4x256, .f32⟩
  | 71 => ⟨S4x1x256, .f32⟩
  | 72 => ⟨S4x256, .f32⟩
  | 73 => ⟨S4x1x256, .f32⟩
  | 74 => ⟨S4x256, .f32⟩
  | 75 => ⟨S4x512, .f32⟩
  | 76 => ⟨S4x1280, .f32⟩
  | 77 => ⟨S1x1280, .f32⟩
  | 78 => ⟨S4x1280, .f32⟩
  | 79 => ⟨S4x1280, .f32⟩
  | 80 => ⟨S4x256, .f32⟩
  | 81 => ⟨S4x256, .f32⟩
  | 82 => ⟨S4x256, .f32⟩
  | 83 => ⟨S_, .f32⟩
  | 84 => ⟨S4x256, .f32⟩
  | 85 => ⟨S4x256, .f32⟩
  | 86 => ⟨S_, .f32⟩
  | 87 => ⟨S4x256, .f32⟩
  | 88 => ⟨S4x256, .f32⟩
  | 89 => ⟨S4x256, .f32⟩
  | 90 => ⟨S4x256, .f32⟩
  | 91 => ⟨S4x256, .f32⟩
  | 92 => ⟨S_, .f32⟩
  | 93 => ⟨S4x256, .f32⟩
  | 94 => ⟨S4x256, .f32⟩
  | 95 => ⟨S_, .f32⟩
  | 96 => ⟨S4x256, .f32⟩
  | 97 => ⟨S4x256, .f32⟩
  | 98 => ⟨S4x256, .f32⟩
  | 99 => ⟨S4x256, .f32⟩
  | 100 => ⟨S4x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S_, .f32⟩
  | 107 => ⟨S4x256, .f32⟩
  | 108 => ⟨S4x256, .f32⟩
  | 109 => ⟨S4x256, .f32⟩
  | 110 => ⟨S4x256, .f32⟩
  | 111 => ⟨S4x256, .f32⟩
  | 112 => ⟨S_, .f32⟩
  | 113 => ⟨S4x256, .f32⟩
  | 114 => ⟨S4x256, .f32⟩
  | 115 => ⟨S_, .f32⟩
  | 116 => ⟨S4x256, .f32⟩
  | 117 => ⟨S4x256, .f32⟩
  | 118 => ⟨S4x256, .f32⟩
  | 119 => ⟨S4x256, .f32⟩
  | 120 => ⟨S4x256, .f32⟩
  | 121 => ⟨S4x256, .f32⟩
  | 122 => ⟨S4x256, .f32⟩
  | 123 => ⟨S4x256, .f32⟩
  | 124 => ⟨S4x256, .f32⟩
  | 125 => ⟨S2x2x256, .f32⟩
  | 126 => ⟨S2x2x256, .f32⟩
  | 127 => ⟨S2x1x256, .f32⟩
  | _ => ⟨S3072x256, .f32⟩

abbrev hbmTy0_9 (i : Nat) : BufTy := match i % 128 with
  | 0 => ⟨S2x256, .f32⟩
  | 1 => ⟨S2x1x256, .f32⟩
  | 2 => ⟨S2x256, .f32⟩
  | 3 => ⟨S2x1x256, .f32⟩
  | 4 => ⟨S2x256, .f32⟩
  | 5 => ⟨S2x1x256, .f32⟩
  | 6 => ⟨S2x256, .f32⟩
  | 7 => ⟨S2x512, .f32⟩
  | 8 => ⟨S2x1280, .f32⟩
  | 9 => ⟨S1x1280, .f32⟩
  | 10 => ⟨S2x1280, .f32⟩
  | 11 => ⟨S2x1280, .f32⟩
  | 12 => ⟨S2x256, .f32⟩
  | 13 => ⟨S2x256, .f32⟩
  | 14 => ⟨S2x256, .f32⟩
  | 15 => ⟨S_, .f32⟩
  | 16 => ⟨S2x256, .f32⟩
  | 17 => ⟨S2x256, .f32⟩
  | 18 => ⟨S_, .f32⟩
  | 19 => ⟨S2x256, .f32⟩
  | 20 => ⟨S2x256, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S_, .f32⟩
  | 28 => ⟨S2x256, .f32⟩
  | 29 => ⟨S2x256, .f32⟩
  | 30 => ⟨S2x256, .f32⟩
  | 31 => ⟨S2x256, .f32⟩
  | 32 => ⟨S2x256, .f32⟩
  | 33 => ⟨S2x256, .f32⟩
  | 34 => ⟨S2x256, .f32⟩
  | 35 => ⟨S_, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S2x256, .f32⟩
  | 42 => ⟨S2x256, .f32⟩
  | 43 => ⟨S2x256, .f32⟩
  | 44 => ⟨S_, .f32⟩
  | 45 => ⟨S2x256, .f32⟩
  | 46 => ⟨S2x256, .f32⟩
  | 47 => ⟨S_, .f32⟩
  | 48 => ⟨S2x256, .f32⟩
  | 49 => ⟨S2x256, .f32⟩
  | 50 => ⟨S2x256, .f32⟩
  | 51 => ⟨S2x256, .f32⟩
  | 52 => ⟨S2x256, .f32⟩
  | 53 => ⟨S2x256, .f32⟩
  | 54 => ⟨S2x256, .f32⟩
  | 55 => ⟨S2x256, .f32⟩
  | 56 => ⟨S2x256, .f32⟩
  | 57 => ⟨S1x2x256, .f32⟩
  | 58 => ⟨S1x2x256, .f32⟩
  | 59 => ⟨S1x1x256, .f32⟩
  | 60 => ⟨S1x256, .f32⟩
  | 61 => ⟨S1x1x256, .f32⟩
  | 62 => ⟨S1x256, .f32⟩
  | 63 => ⟨S1x1x256, .f32⟩
  | 64 => ⟨S1x256, .f32⟩
  | 65 => ⟨S1x1x256, .f32⟩
  | 66 => ⟨S1x256, .f32⟩
  | 67 => ⟨S1x512, .f32⟩
  | 68 => ⟨S1x1280, .f32⟩
  | 69 => ⟨S1x1280, .f32⟩
  | 70 => ⟨S1x1280, .f32⟩
  | 71 => ⟨S1x256, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S_, .f32⟩
  | 78 => ⟨S1x256, .f32⟩
  | 79 => ⟨S1x256, .f32⟩
  | 80 => ⟨S1x256, .f32⟩
  | 81 => ⟨S1x256, .f32⟩
  | 82 => ⟨S1x256, .f32⟩
  | 83 => ⟨S_, .f32⟩
  | 84 => ⟨S1x256, .f32⟩
  | 85 => ⟨S1x256, .f32⟩
  | 86 => ⟨S_, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S_, .f32⟩
  | 95 => ⟨S1x256, .f32⟩
  | 96 => ⟨S1x256, .f32⟩
  | 97 => ⟨S_, .f32⟩
  | 98 => ⟨S1x256, .f32⟩
  | 99 => ⟨S1x256, .f32⟩
  | 100 => ⟨S1x256, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S_, .f32⟩
  | 107 => ⟨S1x256, .f32⟩
  | 108 => ⟨S1x256, .f32⟩
  | 109 => ⟨S1x256, .f32⟩
  | 110 => ⟨S1x256, .f32⟩
  | 111 => ⟨S1x256, .f32⟩
  | 112 => ⟨S1x256, .f32⟩
  | 113 => ⟨S1x256, .f32⟩
  | 114 => ⟨S1x256, .f32⟩
  | 115 => ⟨S1x256, .f32⟩
  | 116 => ⟨S1x512, .f32⟩
  | 117 => ⟨S1x1280, .f32⟩
  | 118 => ⟨S1x1280, .f32⟩
  | 119 => ⟨S1x1280, .f32⟩
  | 120 => ⟨S1x256, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S_, .f32⟩
  | 127 => ⟨S1x256, .f32⟩
  | _ => ⟨S3072x256, .f32⟩

abbrev hbmTy0_10 (i : Nat) : BufTy := match i % 128 with
  | 0 => ⟨S1x256, .f32⟩
  | 1 => ⟨S1x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S_, .f32⟩
  | 8 => ⟨S1x256, .f32⟩
  | 9 => ⟨S1x256, .f32⟩
  | 10 => ⟨S1x256, .f32⟩
  | 11 => ⟨S1x256, .f32⟩
  | 12 => ⟨S1x256, .f32⟩
  | 13 => ⟨S1x256, .f32⟩
  | 14 => ⟨S1x256, .f32⟩
  | 15 => ⟨S_, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S_, .f32⟩
  | 25 => ⟨S1x256, .f32⟩
  | 26 => ⟨S1x256, .f32⟩
  | 27 => ⟨S_, .f32⟩
  | 28 => ⟨S1x256, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S1x256, .f32⟩
  | 36 => ⟨S1x256, .f32⟩
  | _ => ⟨S3072x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S3072x256, .f32⟩

abbrev bufTy : (tb : Table) → Fin (tcTables nBuf tb) → BufTy
  | .hbm, ⟨i, _⟩ => hbmTy i
  | _, _ => ⟨S3072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_7 : Ref sig .tc := ⟨.hbm, 86, rfl⟩
abbrev main_v72 : Ref sig .tc := ⟨.hbm, 87, rfl⟩
abbrev main_v73 : Ref sig .tc := ⟨.hbm, 88, rfl⟩
abbrev main_cst_8 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_cst_12 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_13 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_15 : Ref sig .tc := ⟨.hbm, 146, rfl⟩
abbrev main_v124 : Ref sig .tc := ⟨.hbm, 147, rfl⟩
abbrev main_v125 : Ref sig .tc := ⟨.hbm, 148, rfl⟩
abbrev main_cst_16 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_17 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_19 : Ref sig .tc := ⟨.hbm, 166, rfl⟩
abbrev main_v140 : Ref sig .tc := ⟨.hbm, 167, rfl⟩
abbrev main_v141 : Ref sig .tc := ⟨.hbm, 168, rfl⟩
abbrev main_cst_20 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_21 : Ref sig .tc := ⟨.hbm, 175, rfl⟩
abbrev main_v147 : Ref sig .tc := ⟨.hbm, 176, rfl⟩
abbrev main_v148 : Ref sig .tc := ⟨.hbm, 177, rfl⟩
abbrev main_cst_22 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_23 : Ref sig .tc := ⟨.hbm, 206, rfl⟩
abbrev main_v176 : Ref sig .tc := ⟨.hbm, 207, rfl⟩
abbrev main_v177 : Ref sig .tc := ⟨.hbm, 208, rfl⟩
abbrev main_cst_24 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_cst_25 : Ref sig .tc := ⟨.hbm, 215, rfl⟩
abbrev main_v183 : Ref sig .tc := ⟨.hbm, 216, rfl⟩
abbrev main_v184 : Ref sig .tc := ⟨.hbm, 217, rfl⟩
abbrev main_cst_26 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_27 : Ref sig .tc := ⟨.hbm, 226, rfl⟩
abbrev main_v192 : Ref sig .tc := ⟨.hbm, 227, rfl⟩
abbrev main_v193 : Ref sig .tc := ⟨.hbm, 228, rfl⟩
abbrev main_cst_28 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_cst_29 : Ref sig .tc := ⟨.hbm, 235, rfl⟩
abbrev main_v199 : Ref sig .tc := ⟨.hbm, 236, rfl⟩
abbrev main_v200 : Ref sig .tc := ⟨.hbm, 237, rfl⟩
abbrev main_cst_30 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_cst_31 : Ref sig .tc := ⟨.hbm, 266, rfl⟩
abbrev main_v228 : Ref sig .tc := ⟨.hbm, 267, rfl⟩
abbrev main_v229 : Ref sig .tc := ⟨.hbm, 268, rfl⟩
abbrev main_cst_32 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_cst_33 : Ref sig .tc := ⟨.hbm, 275, rfl⟩
abbrev main_v235 : Ref sig .tc := ⟨.hbm, 276, rfl⟩
abbrev main_v236 : Ref sig .tc := ⟨.hbm, 277, rfl⟩
abbrev main_cst_34 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_cst_35 : Ref sig .tc := ⟨.hbm, 286, rfl⟩
abbrev main_v244 : Ref sig .tc := ⟨.hbm, 287, rfl⟩
abbrev main_v245 : Ref sig .tc := ⟨.hbm, 288, rfl⟩
abbrev main_cst_36 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_cst_37 : Ref sig .tc := ⟨.hbm, 295, rfl⟩
abbrev main_v251 : Ref sig .tc := ⟨.hbm, 296, rfl⟩
abbrev main_v252 : Ref sig .tc := ⟨.hbm, 297, rfl⟩
abbrev main_cst_38 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_cst_39 : Ref sig .tc := ⟨.hbm, 326, rfl⟩
abbrev main_v280 : Ref sig .tc := ⟨.hbm, 327, rfl⟩
abbrev main_v281 : Ref sig .tc := ⟨.hbm, 328, rfl⟩
abbrev main_cst_40 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_cst_41 : Ref sig .tc := ⟨.hbm, 335, rfl⟩
abbrev main_v287 : Ref sig .tc := ⟨.hbm, 336, rfl⟩
abbrev main_v288 : Ref sig .tc := ⟨.hbm, 337, rfl⟩
abbrev main_cst_42 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_cst_43 : Ref sig .tc := ⟨.hbm, 346, rfl⟩
abbrev main_v296 : Ref sig .tc := ⟨.hbm, 347, rfl⟩
abbrev main_v297 : Ref sig .tc := ⟨.hbm, 348, rfl⟩
abbrev main_cst_44 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_cst_45 : Ref sig .tc := ⟨.hbm, 355, rfl⟩
abbrev main_v303 : Ref sig .tc := ⟨.hbm, 356, rfl⟩
abbrev main_v304 : Ref sig .tc := ⟨.hbm, 357, rfl⟩
abbrev main_cst_46 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_cst_47 : Ref sig .tc := ⟨.hbm, 386, rfl⟩
abbrev main_v332 : Ref sig .tc := ⟨.hbm, 387, rfl⟩
abbrev main_v333 : Ref sig .tc := ⟨.hbm, 388, rfl⟩
abbrev main_cst_48 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_cst_49 : Ref sig .tc := ⟨.hbm, 395, rfl⟩
abbrev main_v339 : Ref sig .tc := ⟨.hbm, 396, rfl⟩
abbrev main_v340 : Ref sig .tc := ⟨.hbm, 397, rfl⟩
abbrev main_cst_50 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_cst_51 : Ref sig .tc := ⟨.hbm, 406, rfl⟩
abbrev main_v348 : Ref sig .tc := ⟨.hbm, 407, rfl⟩
abbrev main_v349 : Ref sig .tc := ⟨.hbm, 408, rfl⟩
abbrev main_cst_52 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_cst_53 : Ref sig .tc := ⟨.hbm, 415, rfl⟩
abbrev main_v355 : Ref sig .tc := ⟨.hbm, 416, rfl⟩
abbrev main_v356 : Ref sig .tc := ⟨.hbm, 417, rfl⟩
abbrev main_cst_54 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_v364 : Ref sig .tc := ⟨.hbm, 426, rfl⟩
abbrev main_v365 : Ref sig .tc := ⟨.hbm, 427, rfl⟩
abbrev main_v366 : Ref sig .tc := ⟨.hbm, 428, rfl⟩
abbrev main_v367 : Ref sig .tc := ⟨.hbm, 429, rfl⟩
abbrev main_v368 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_cst_55 : Ref sig .tc := ⟨.hbm, 446, rfl⟩
abbrev main_v384 : Ref sig .tc := ⟨.hbm, 447, rfl⟩
abbrev main_v385 : Ref sig .tc := ⟨.hbm, 448, rfl⟩
abbrev main_cst_56 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_cst_57 : Ref sig .tc := ⟨.hbm, 455, rfl⟩
abbrev main_v391 : Ref sig .tc := ⟨.hbm, 456, rfl⟩
abbrev main_v392 : Ref sig .tc := ⟨.hbm, 457, rfl⟩
abbrev main_cst_58 : Ref sig .tc := ⟨.hbm, 458, rfl⟩
abbrev main_v393 : Ref sig .tc := ⟨.hbm, 459, rfl⟩
abbrev main_v394 : Ref sig .tc := ⟨.hbm, 460, rfl⟩
abbrev main_v395 : Ref sig .tc := ⟨.hbm, 461, rfl⟩
abbrev main_v396 : Ref sig .tc := ⟨.hbm, 462, rfl⟩
abbrev main_v397 : Ref sig .tc := ⟨.hbm, 463, rfl⟩
abbrev main_v398 : Ref sig .tc := ⟨.hbm, 464, rfl⟩
abbrev main_v399 : Ref sig .tc := ⟨.hbm, 465, rfl⟩
abbrev main_cst_59 : Ref sig .tc := ⟨.hbm, 466, rfl⟩
abbrev main_v400 : Ref sig .tc := ⟨.hbm, 467, rfl⟩
abbrev main_v401 : Ref sig .tc := ⟨.hbm, 468, rfl⟩
abbrev main_cst_60 : Ref sig .tc := ⟨.hbm, 469, rfl⟩
abbrev main_v402 : Ref sig .tc := ⟨.hbm, 470, rfl⟩
abbrev main_v403 : Ref sig .tc := ⟨.hbm, 471, rfl⟩
abbrev main_v404 : Ref sig .tc := ⟨.hbm, 472, rfl⟩
abbrev main_v405 : Ref sig .tc := ⟨.hbm, 473, rfl⟩
abbrev main_v406 : Ref sig .tc := ⟨.hbm, 474, rfl⟩
abbrev main_cst_61 : Ref sig .tc := ⟨.hbm, 475, rfl⟩
abbrev main_v407 : Ref sig .tc := ⟨.hbm, 476, rfl⟩
abbrev main_v408 : Ref sig .tc := ⟨.hbm, 477, rfl⟩
abbrev main_cst_62 : Ref sig .tc := ⟨.hbm, 478, rfl⟩
abbrev main_v409 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_v413 : Ref sig .tc := ⟨.hbm, 483, rfl⟩
abbrev main_v414 : Ref sig .tc := ⟨.hbm, 484, rfl⟩
abbrev main_v415 : Ref sig .tc := ⟨.hbm, 485, rfl⟩
abbrev main_v416 : Ref sig .tc := ⟨.hbm, 486, rfl⟩
abbrev main_v417 : Ref sig .tc := ⟨.hbm, 487, rfl⟩
abbrev main_v418 : Ref sig .tc := ⟨.hbm, 488, rfl⟩
abbrev main_v419 : Ref sig .tc := ⟨.hbm, 489, rfl⟩
abbrev main_v420 : Ref sig .tc := ⟨.hbm, 490, rfl⟩
abbrev main_v421 : Ref sig .tc := ⟨.hbm, 491, rfl⟩
abbrev main_v422 : Ref sig .tc := ⟨.hbm, 492, rfl⟩
abbrev main_v423 : Ref sig .tc := ⟨.hbm, 493, rfl⟩
abbrev main_v424 : Ref sig .tc := ⟨.hbm, 494, rfl⟩
abbrev main_v425 : Ref sig .tc := ⟨.hbm, 495, rfl⟩
abbrev main_v426 : Ref sig .tc := ⟨.hbm, 496, rfl⟩
abbrev main_v427 : Ref sig .tc := ⟨.hbm, 497, rfl⟩
abbrev main_v428 : Ref sig .tc := ⟨.hbm, 498, rfl⟩
abbrev main_v429 : Ref sig .tc := ⟨.hbm, 499, rfl⟩
abbrev main_v430 : Ref sig .tc := ⟨.hbm, 500, rfl⟩
abbrev main_v431 : Ref sig .tc := ⟨.hbm, 501, rfl⟩
abbrev main_v432 : Ref sig .tc := ⟨.hbm, 502, rfl⟩
abbrev main_v433 : Ref sig .tc := ⟨.hbm, 503, rfl⟩
abbrev main_v434 : Ref sig .tc := ⟨.hbm, 504, rfl⟩
abbrev main_v435 : Ref sig .tc := ⟨.hbm, 505, rfl⟩
abbrev main_cst_63 : Ref sig .tc := ⟨.hbm, 506, rfl⟩
abbrev main_v436 : Ref sig .tc := ⟨.hbm, 507, rfl⟩
abbrev main_v437 : Ref sig .tc := ⟨.hbm, 508, rfl⟩
abbrev main_cst_64 : Ref sig .tc := ⟨.hbm, 509, rfl⟩
abbrev main_v438 : Ref sig .tc := ⟨.hbm, 510, rfl⟩
abbrev main_v439 : Ref sig .tc := ⟨.hbm, 511, rfl⟩
abbrev main_v440 : Ref sig .tc := ⟨.hbm, 512, rfl⟩
abbrev main_v441 : Ref sig .tc := ⟨.hbm, 513, rfl⟩
abbrev main_v442 : Ref sig .tc := ⟨.hbm, 514, rfl⟩
abbrev main_cst_65 : Ref sig .tc := ⟨.hbm, 515, rfl⟩
abbrev main_v443 : Ref sig .tc := ⟨.hbm, 516, rfl⟩
abbrev main_v444 : Ref sig .tc := ⟨.hbm, 517, rfl⟩
abbrev main_cst_66 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_cst_67 : Ref sig .tc := ⟨.hbm, 526, rfl⟩
abbrev main_v452 : Ref sig .tc := ⟨.hbm, 527, rfl⟩
abbrev main_v453 : Ref sig .tc := ⟨.hbm, 528, rfl⟩
abbrev main_cst_68 : Ref sig .tc := ⟨.hbm, 529, rfl⟩
abbrev main_v454 : Ref sig .tc := ⟨.hbm, 530, rfl⟩
abbrev main_v455 : Ref sig .tc := ⟨.hbm, 531, rfl⟩
abbrev main_v456 : Ref sig .tc := ⟨.hbm, 532, rfl⟩
abbrev main_v457 : Ref sig .tc := ⟨.hbm, 533, rfl⟩
abbrev main_v458 : Ref sig .tc := ⟨.hbm, 534, rfl⟩
abbrev main_cst_69 : Ref sig .tc := ⟨.hbm, 535, rfl⟩
abbrev main_v459 : Ref sig .tc := ⟨.hbm, 536, rfl⟩
abbrev main_v460 : Ref sig .tc := ⟨.hbm, 537, rfl⟩
abbrev main_cst_70 : Ref sig .tc := ⟨.hbm, 538, rfl⟩
abbrev main_v461 : Ref sig .tc := ⟨.hbm, 539, rfl⟩
abbrev main_v462 : Ref sig .tc := ⟨.hbm, 540, rfl⟩
abbrev main_v463 : Ref sig .tc := ⟨.hbm, 541, rfl⟩
abbrev main_v464 : Ref sig .tc := ⟨.hbm, 542, rfl⟩
abbrev main_v465 : Ref sig .tc := ⟨.hbm, 543, rfl⟩
abbrev main_v466 : Ref sig .tc := ⟨.hbm, 544, rfl⟩
abbrev main_v467 : Ref sig .tc := ⟨.hbm, 545, rfl⟩
abbrev main_v468 : Ref sig .tc := ⟨.hbm, 546, rfl⟩
abbrev main_v469 : Ref sig .tc := ⟨.hbm, 547, rfl⟩
abbrev main_v470 : Ref sig .tc := ⟨.hbm, 548, rfl⟩
abbrev main_v471 : Ref sig .tc := ⟨.hbm, 549, rfl⟩
abbrev main_v472 : Ref sig .tc := ⟨.hbm, 550, rfl⟩
abbrev main_v473 : Ref sig .tc := ⟨.hbm, 551, rfl⟩
abbrev main_v474 : Ref sig .tc := ⟨.hbm, 552, rfl⟩
abbrev main_v475 : Ref sig .tc := ⟨.hbm, 553, rfl⟩
abbrev main_v476 : Ref sig .tc := ⟨.hbm, 554, rfl⟩
abbrev main_v477 : Ref sig .tc := ⟨.hbm, 555, rfl⟩
abbrev main_v478 : Ref sig .tc := ⟨.hbm, 556, rfl⟩
abbrev main_v479 : Ref sig .tc := ⟨.hbm, 557, rfl⟩
abbrev main_v480 : Ref sig .tc := ⟨.hbm, 558, rfl⟩
abbrev main_v481 : Ref sig .tc := ⟨.hbm, 559, rfl⟩
abbrev main_v482 : Ref sig .tc := ⟨.hbm, 560, rfl⟩
abbrev main_v483 : Ref sig .tc := ⟨.hbm, 561, rfl⟩
abbrev main_v484 : Ref sig .tc := ⟨.hbm, 562, rfl⟩
abbrev main_v485 : Ref sig .tc := ⟨.hbm, 563, rfl⟩
abbrev main_v486 : Ref sig .tc := ⟨.hbm, 564, rfl⟩
abbrev main_v487 : Ref sig .tc := ⟨.hbm, 565, rfl⟩
abbrev main_cst_71 : Ref sig .tc := ⟨.hbm, 566, rfl⟩
abbrev main_v488 : Ref sig .tc := ⟨.hbm, 567, rfl⟩
abbrev main_v489 : Ref sig .tc := ⟨.hbm, 568, rfl⟩
abbrev main_cst_72 : Ref sig .tc := ⟨.hbm, 569, rfl⟩
abbrev main_v490 : Ref sig .tc := ⟨.hbm, 570, rfl⟩
abbrev main_v491 : Ref sig .tc := ⟨.hbm, 571, rfl⟩
abbrev main_v492 : Ref sig .tc := ⟨.hbm, 572, rfl⟩
abbrev main_v493 : Ref sig .tc := ⟨.hbm, 573, rfl⟩
abbrev main_v494 : Ref sig .tc := ⟨.hbm, 574, rfl⟩
abbrev main_cst_73 : Ref sig .tc := ⟨.hbm, 575, rfl⟩
abbrev main_v495 : Ref sig .tc := ⟨.hbm, 576, rfl⟩
abbrev main_v496 : Ref sig .tc := ⟨.hbm, 577, rfl⟩
abbrev main_cst_74 : Ref sig .tc := ⟨.hbm, 578, rfl⟩
abbrev main_v497 : Ref sig .tc := ⟨.hbm, 579, rfl⟩
abbrev main_v498 : Ref sig .tc := ⟨.hbm, 580, rfl⟩
abbrev main_v499 : Ref sig .tc := ⟨.hbm, 581, rfl⟩
abbrev main_v500 : Ref sig .tc := ⟨.hbm, 582, rfl⟩
abbrev main_v501 : Ref sig .tc := ⟨.hbm, 583, rfl⟩
abbrev main_v502 : Ref sig .tc := ⟨.hbm, 584, rfl⟩
abbrev main_v503 : Ref sig .tc := ⟨.hbm, 585, rfl⟩
abbrev main_cst_75 : Ref sig .tc := ⟨.hbm, 586, rfl⟩
abbrev main_v504 : Ref sig .tc := ⟨.hbm, 587, rfl⟩
abbrev main_v505 : Ref sig .tc := ⟨.hbm, 588, rfl⟩
abbrev main_cst_76 : Ref sig .tc := ⟨.hbm, 589, rfl⟩
abbrev main_v506 : Ref sig .tc := ⟨.hbm, 590, rfl⟩
abbrev main_v507 : Ref sig .tc := ⟨.hbm, 591, rfl⟩
abbrev main_v508 : Ref sig .tc := ⟨.hbm, 592, rfl⟩
abbrev main_v509 : Ref sig .tc := ⟨.hbm, 593, rfl⟩
abbrev main_v510 : Ref sig .tc := ⟨.hbm, 594, rfl⟩
abbrev main_cst_77 : Ref sig .tc := ⟨.hbm, 595, rfl⟩
abbrev main_v511 : Ref sig .tc := ⟨.hbm, 596, rfl⟩
abbrev main_v512 : Ref sig .tc := ⟨.hbm, 597, rfl⟩
abbrev main_cst_78 : Ref sig .tc := ⟨.hbm, 598, rfl⟩
abbrev main_v513 : Ref sig .tc := ⟨.hbm, 599, rfl⟩
abbrev main_v514 : Ref sig .tc := ⟨.hbm, 600, rfl⟩
abbrev main_v515 : Ref sig .tc := ⟨.hbm, 601, rfl⟩
abbrev main_v516 : Ref sig .tc := ⟨.hbm, 602, rfl⟩
abbrev main_v517 : Ref sig .tc := ⟨.hbm, 603, rfl⟩
abbrev main_v518 : Ref sig .tc := ⟨.hbm, 604, rfl⟩
abbrev main_v519 : Ref sig .tc := ⟨.hbm, 605, rfl⟩
abbrev main_v520 : Ref sig .tc := ⟨.hbm, 606, rfl⟩
abbrev main_v521 : Ref sig .tc := ⟨.hbm, 607, rfl⟩
abbrev main_v522 : Ref sig .tc := ⟨.hbm, 608, rfl⟩
abbrev main_v523 : Ref sig .tc := ⟨.hbm, 609, rfl⟩
abbrev main_v524 : Ref sig .tc := ⟨.hbm, 610, rfl⟩
abbrev main_v525 : Ref sig .tc := ⟨.hbm, 611, rfl⟩
abbrev main_v526 : Ref sig .tc := ⟨.hbm, 612, rfl⟩
abbrev main_v527 : Ref sig .tc := ⟨.hbm, 613, rfl⟩
abbrev main_v528 : Ref sig .tc := ⟨.hbm, 614, rfl⟩
abbrev main_v529 : Ref sig .tc := ⟨.hbm, 615, rfl⟩
abbrev main_v530 : Ref sig .tc := ⟨.hbm, 616, rfl⟩
abbrev main_v531 : Ref sig .tc := ⟨.hbm, 617, rfl⟩
abbrev main_v532 : Ref sig .tc := ⟨.hbm, 618, rfl⟩
abbrev main_v533 : Ref sig .tc := ⟨.hbm, 619, rfl⟩
abbrev main_v534 : Ref sig .tc := ⟨.hbm, 620, rfl⟩
abbrev main_v535 : Ref sig .tc := ⟨.hbm, 621, rfl⟩
abbrev main_v536 : Ref sig .tc := ⟨.hbm, 622, rfl⟩
abbrev main_v537 : Ref sig .tc := ⟨.hbm, 623, rfl⟩
abbrev main_v538 : Ref sig .tc := ⟨.hbm, 624, rfl⟩
abbrev main_cst_79 : Ref sig .tc := ⟨.hbm, 625, rfl⟩
abbrev main_v539 : Ref sig .tc := ⟨.hbm, 626, rfl⟩
abbrev main_v540 : Ref sig .tc := ⟨.hbm, 627, rfl⟩
abbrev main_cst_80 : Ref sig .tc := ⟨.hbm, 628, rfl⟩
abbrev main_v541 : Ref sig .tc := ⟨.hbm, 629, rfl⟩
abbrev main_v542 : Ref sig .tc := ⟨.hbm, 630, rfl⟩
abbrev main_v543 : Ref sig .tc := ⟨.hbm, 631, rfl⟩
abbrev main_v544 : Ref sig .tc := ⟨.hbm, 632, rfl⟩
abbrev main_v545 : Ref sig .tc := ⟨.hbm, 633, rfl⟩
abbrev main_cst_81 : Ref sig .tc := ⟨.hbm, 634, rfl⟩
abbrev main_v546 : Ref sig .tc := ⟨.hbm, 635, rfl⟩
abbrev main_v547 : Ref sig .tc := ⟨.hbm, 636, rfl⟩
abbrev main_cst_82 : Ref sig .tc := ⟨.hbm, 637, rfl⟩
abbrev main_v548 : Ref sig .tc := ⟨.hbm, 638, rfl⟩
abbrev main_v549 : Ref sig .tc := ⟨.hbm, 639, rfl⟩
abbrev main_v550 : Ref sig .tc := ⟨.hbm, 640, rfl⟩
abbrev main_v551 : Ref sig .tc := ⟨.hbm, 641, rfl⟩
abbrev main_v552 : Ref sig .tc := ⟨.hbm, 642, rfl⟩
abbrev main_v553 : Ref sig .tc := ⟨.hbm, 643, rfl⟩
abbrev main_v554 : Ref sig .tc := ⟨.hbm, 644, rfl⟩
abbrev main_cst_83 : Ref sig .tc := ⟨.hbm, 645, rfl⟩
abbrev main_v555 : Ref sig .tc := ⟨.hbm, 646, rfl⟩
abbrev main_v556 : Ref sig .tc := ⟨.hbm, 647, rfl⟩
abbrev main_cst_84 : Ref sig .tc := ⟨.hbm, 648, rfl⟩
abbrev main_v557 : Ref sig .tc := ⟨.hbm, 649, rfl⟩
abbrev main_v558 : Ref sig .tc := ⟨.hbm, 650, rfl⟩
abbrev main_v559 : Ref sig .tc := ⟨.hbm, 651, rfl⟩
abbrev main_v560 : Ref sig .tc := ⟨.hbm, 652, rfl⟩
abbrev main_v561 : Ref sig .tc := ⟨.hbm, 653, rfl⟩
abbrev main_cst_85 : Ref sig .tc := ⟨.hbm, 654, rfl⟩
abbrev main_v562 : Ref sig .tc := ⟨.hbm, 655, rfl⟩
abbrev main_v563 : Ref sig .tc := ⟨.hbm, 656, rfl⟩
abbrev main_cst_86 : Ref sig .tc := ⟨.hbm, 657, rfl⟩
abbrev main_v564 : Ref sig .tc := ⟨.hbm, 658, rfl⟩
abbrev main_v565 : Ref sig .tc := ⟨.hbm, 659, rfl⟩
abbrev main_v566 : Ref sig .tc := ⟨.hbm, 660, rfl⟩
abbrev main_v567 : Ref sig .tc := ⟨.hbm, 661, rfl⟩
abbrev main_v568 : Ref sig .tc := ⟨.hbm, 662, rfl⟩
abbrev main_v569 : Ref sig .tc := ⟨.hbm, 663, rfl⟩
abbrev main_v570 : Ref sig .tc := ⟨.hbm, 664, rfl⟩
abbrev main_v571 : Ref sig .tc := ⟨.hbm, 665, rfl⟩
abbrev main_v572 : Ref sig .tc := ⟨.hbm, 666, rfl⟩
abbrev main_v573 : Ref sig .tc := ⟨.hbm, 667, rfl⟩
abbrev main_v574 : Ref sig .tc := ⟨.hbm, 668, rfl⟩
abbrev main_v575 : Ref sig .tc := ⟨.hbm, 669, rfl⟩
abbrev main_v576 : Ref sig .tc := ⟨.hbm, 670, rfl⟩
abbrev main_v577 : Ref sig .tc := ⟨.hbm, 671, rfl⟩
abbrev main_v578 : Ref sig .tc := ⟨.hbm, 672, rfl⟩
abbrev main_v579 : Ref sig .tc := ⟨.hbm, 673, rfl⟩
abbrev main_v580 : Ref sig .tc := ⟨.hbm, 674, rfl⟩
abbrev main_v581 : Ref sig .tc := ⟨.hbm, 675, rfl⟩
abbrev main_v582 : Ref sig .tc := ⟨.hbm, 676, rfl⟩
abbrev main_v583 : Ref sig .tc := ⟨.hbm, 677, rfl⟩
abbrev main_v584 : Ref sig .tc := ⟨.hbm, 678, rfl⟩
abbrev main_v585 : Ref sig .tc := ⟨.hbm, 679, rfl⟩
abbrev main_v586 : Ref sig .tc := ⟨.hbm, 680, rfl⟩
abbrev main_v587 : Ref sig .tc := ⟨.hbm, 681, rfl⟩
abbrev main_v588 : Ref sig .tc := ⟨.hbm, 682, rfl⟩
abbrev main_v589 : Ref sig .tc := ⟨.hbm, 683, rfl⟩
abbrev main_v590 : Ref sig .tc := ⟨.hbm, 684, rfl⟩
abbrev main_v591 : Ref sig .tc := ⟨.hbm, 685, rfl⟩
abbrev main_v592 : Ref sig .tc := ⟨.hbm, 686, rfl⟩
abbrev main_cst_87 : Ref sig .tc := ⟨.hbm, 687, rfl⟩
abbrev main_v593 : Ref sig .tc := ⟨.hbm, 688, rfl⟩
abbrev main_v594 : Ref sig .tc := ⟨.hbm, 689, rfl⟩
abbrev main_cst_88 : Ref sig .tc := ⟨.hbm, 690, rfl⟩
abbrev main_v595 : Ref sig .tc := ⟨.hbm, 691, rfl⟩
abbrev main_v596 : Ref sig .tc := ⟨.hbm, 692, rfl⟩
abbrev main_v597 : Ref sig .tc := ⟨.hbm, 693, rfl⟩
abbrev main_v598 : Ref sig .tc := ⟨.hbm, 694, rfl⟩
abbrev main_v599 : Ref sig .tc := ⟨.hbm, 695, rfl⟩
abbrev main_cst_89 : Ref sig .tc := ⟨.hbm, 696, rfl⟩
abbrev main_v600 : Ref sig .tc := ⟨.hbm, 697, rfl⟩
abbrev main_v601 : Ref sig .tc := ⟨.hbm, 698, rfl⟩
abbrev main_cst_90 : Ref sig .tc := ⟨.hbm, 699, rfl⟩
abbrev main_v602 : Ref sig .tc := ⟨.hbm, 700, rfl⟩
abbrev main_v603 : Ref sig .tc := ⟨.hbm, 701, rfl⟩
abbrev main_v604 : Ref sig .tc := ⟨.hbm, 702, rfl⟩
abbrev main_v605 : Ref sig .tc := ⟨.hbm, 703, rfl⟩
abbrev main_v606 : Ref sig .tc := ⟨.hbm, 704, rfl⟩
abbrev main_v607 : Ref sig .tc := ⟨.hbm, 705, rfl⟩
abbrev main_v608 : Ref sig .tc := ⟨.hbm, 706, rfl⟩
abbrev main_cst_91 : Ref sig .tc := ⟨.hbm, 707, rfl⟩
abbrev main_v609 : Ref sig .tc := ⟨.hbm, 708, rfl⟩
abbrev main_v610 : Ref sig .tc := ⟨.hbm, 709, rfl⟩
abbrev main_cst_92 : Ref sig .tc := ⟨.hbm, 710, rfl⟩
abbrev main_v611 : Ref sig .tc := ⟨.hbm, 711, rfl⟩
abbrev main_v612 : Ref sig .tc := ⟨.hbm, 712, rfl⟩
abbrev main_v613 : Ref sig .tc := ⟨.hbm, 713, rfl⟩
abbrev main_v614 : Ref sig .tc := ⟨.hbm, 714, rfl⟩
abbrev main_v615 : Ref sig .tc := ⟨.hbm, 715, rfl⟩
abbrev main_cst_93 : Ref sig .tc := ⟨.hbm, 716, rfl⟩
abbrev main_v616 : Ref sig .tc := ⟨.hbm, 717, rfl⟩
abbrev main_v617 : Ref sig .tc := ⟨.hbm, 718, rfl⟩
abbrev main_cst_94 : Ref sig .tc := ⟨.hbm, 719, rfl⟩
abbrev main_v618 : Ref sig .tc := ⟨.hbm, 720, rfl⟩
abbrev main_v619 : Ref sig .tc := ⟨.hbm, 721, rfl⟩
abbrev main_v620 : Ref sig .tc := ⟨.hbm, 722, rfl⟩
abbrev main_v621 : Ref sig .tc := ⟨.hbm, 723, rfl⟩
abbrev main_v622 : Ref sig .tc := ⟨.hbm, 724, rfl⟩
abbrev main_v623 : Ref sig .tc := ⟨.hbm, 725, rfl⟩
abbrev main_v624 : Ref sig .tc := ⟨.hbm, 726, rfl⟩
abbrev main_v625 : Ref sig .tc := ⟨.hbm, 727, rfl⟩
abbrev main_v626 : Ref sig .tc := ⟨.hbm, 728, rfl⟩
abbrev main_v627 : Ref sig .tc := ⟨.hbm, 729, rfl⟩
abbrev main_v628 : Ref sig .tc := ⟨.hbm, 730, rfl⟩
abbrev main_v629 : Ref sig .tc := ⟨.hbm, 731, rfl⟩
abbrev main_v630 : Ref sig .tc := ⟨.hbm, 732, rfl⟩
abbrev main_v631 : Ref sig .tc := ⟨.hbm, 733, rfl⟩
abbrev main_v632 : Ref sig .tc := ⟨.hbm, 734, rfl⟩
abbrev main_v633 : Ref sig .tc := ⟨.hbm, 735, rfl⟩
abbrev main_v634 : Ref sig .tc := ⟨.hbm, 736, rfl⟩
abbrev main_v635 : Ref sig .tc := ⟨.hbm, 737, rfl⟩
abbrev main_v636 : Ref sig .tc := ⟨.hbm, 738, rfl⟩
abbrev main_v637 : Ref sig .tc := ⟨.hbm, 739, rfl⟩
abbrev main_v638 : Ref sig .tc := ⟨.hbm, 740, rfl⟩
abbrev main_v639 : Ref sig .tc := ⟨.hbm, 741, rfl⟩
abbrev main_v640 : Ref sig .tc := ⟨.hbm, 742, rfl⟩
abbrev main_v641 : Ref sig .tc := ⟨.hbm, 743, rfl⟩
abbrev main_v642 : Ref sig .tc := ⟨.hbm, 744, rfl⟩
abbrev main_v643 : Ref sig .tc := ⟨.hbm, 745, rfl⟩
abbrev main_v644 : Ref sig .tc := ⟨.hbm, 746, rfl⟩
abbrev main_cst_95 : Ref sig .tc := ⟨.hbm, 747, rfl⟩
abbrev main_v645 : Ref sig .tc := ⟨.hbm, 748, rfl⟩
abbrev main_v646 : Ref sig .tc := ⟨.hbm, 749, rfl⟩
abbrev main_cst_96 : Ref sig .tc := ⟨.hbm, 750, rfl⟩
abbrev main_v647 : Ref sig .tc := ⟨.hbm, 751, rfl⟩
abbrev main_v648 : Ref sig .tc := ⟨.hbm, 752, rfl⟩
abbrev main_v649 : Ref sig .tc := ⟨.hbm, 753, rfl⟩
abbrev main_v650 : Ref sig .tc := ⟨.hbm, 754, rfl⟩
abbrev main_v651 : Ref sig .tc := ⟨.hbm, 755, rfl⟩
abbrev main_cst_97 : Ref sig .tc := ⟨.hbm, 756, rfl⟩
abbrev main_v652 : Ref sig .tc := ⟨.hbm, 757, rfl⟩
abbrev main_v653 : Ref sig .tc := ⟨.hbm, 758, rfl⟩
abbrev main_cst_98 : Ref sig .tc := ⟨.hbm, 759, rfl⟩
abbrev main_v654 : Ref sig .tc := ⟨.hbm, 760, rfl⟩
abbrev main_v655 : Ref sig .tc := ⟨.hbm, 761, rfl⟩
abbrev main_v656 : Ref sig .tc := ⟨.hbm, 762, rfl⟩
abbrev main_v657 : Ref sig .tc := ⟨.hbm, 763, rfl⟩
abbrev main_v658 : Ref sig .tc := ⟨.hbm, 764, rfl⟩
abbrev main_v659 : Ref sig .tc := ⟨.hbm, 765, rfl⟩
abbrev main_v660 : Ref sig .tc := ⟨.hbm, 766, rfl⟩
abbrev main_cst_99 : Ref sig .tc := ⟨.hbm, 767, rfl⟩
abbrev main_v661 : Ref sig .tc := ⟨.hbm, 768, rfl⟩
abbrev main_v662 : Ref sig .tc := ⟨.hbm, 769, rfl⟩
abbrev main_cst_100 : Ref sig .tc := ⟨.hbm, 770, rfl⟩
abbrev main_v663 : Ref sig .tc := ⟨.hbm, 771, rfl⟩
abbrev main_v664 : Ref sig .tc := ⟨.hbm, 772, rfl⟩
abbrev main_v665 : Ref sig .tc := ⟨.hbm, 773, rfl⟩
abbrev main_v666 : Ref sig .tc := ⟨.hbm, 774, rfl⟩
abbrev main_v667 : Ref sig .tc := ⟨.hbm, 775, rfl⟩
abbrev main_cst_101 : Ref sig .tc := ⟨.hbm, 776, rfl⟩
abbrev main_v668 : Ref sig .tc := ⟨.hbm, 777, rfl⟩
abbrev main_v669 : Ref sig .tc := ⟨.hbm, 778, rfl⟩
abbrev main_cst_102 : Ref sig .tc := ⟨.hbm, 779, rfl⟩
abbrev main_v670 : Ref sig .tc := ⟨.hbm, 780, rfl⟩
abbrev main_v671 : Ref sig .tc := ⟨.hbm, 781, rfl⟩
abbrev main_v672 : Ref sig .tc := ⟨.hbm, 782, rfl⟩
abbrev main_v673 : Ref sig .tc := ⟨.hbm, 783, rfl⟩
abbrev main_v674 : Ref sig .tc := ⟨.hbm, 784, rfl⟩
abbrev main_v675 : Ref sig .tc := ⟨.hbm, 785, rfl⟩
abbrev main_v676 : Ref sig .tc := ⟨.hbm, 786, rfl⟩
abbrev main_v677 : Ref sig .tc := ⟨.hbm, 787, rfl⟩
abbrev main_v678 : Ref sig .tc := ⟨.hbm, 788, rfl⟩
abbrev main_v679 : Ref sig .tc := ⟨.hbm, 789, rfl⟩
abbrev main_v680 : Ref sig .tc := ⟨.hbm, 790, rfl⟩
abbrev main_v681 : Ref sig .tc := ⟨.hbm, 791, rfl⟩
abbrev main_v682 : Ref sig .tc := ⟨.hbm, 792, rfl⟩
abbrev main_v683 : Ref sig .tc := ⟨.hbm, 793, rfl⟩
abbrev main_v684 : Ref sig .tc := ⟨.hbm, 794, rfl⟩
abbrev main_v685 : Ref sig .tc := ⟨.hbm, 795, rfl⟩
abbrev main_v686 : Ref sig .tc := ⟨.hbm, 796, rfl⟩
abbrev main_v687 : Ref sig .tc := ⟨.hbm, 797, rfl⟩
abbrev main_v688 : Ref sig .tc := ⟨.hbm, 798, rfl⟩
abbrev main_v689 : Ref sig .tc := ⟨.hbm, 799, rfl⟩
abbrev main_v690 : Ref sig .tc := ⟨.hbm, 800, rfl⟩
abbrev main_v691 : Ref sig .tc := ⟨.hbm, 801, rfl⟩
abbrev main_v692 : Ref sig .tc := ⟨.hbm, 802, rfl⟩
abbrev main_v693 : Ref sig .tc := ⟨.hbm, 803, rfl⟩
abbrev main_v694 : Ref sig .tc := ⟨.hbm, 804, rfl⟩
abbrev main_v695 : Ref sig .tc := ⟨.hbm, 805, rfl⟩
abbrev main_v696 : Ref sig .tc := ⟨.hbm, 806, rfl⟩
abbrev main_cst_103 : Ref sig .tc := ⟨.hbm, 807, rfl⟩
abbrev main_v697 : Ref sig .tc := ⟨.hbm, 808, rfl⟩
abbrev main_v698 : Ref sig .tc := ⟨.hbm, 809, rfl⟩
abbrev main_cst_104 : Ref sig .tc := ⟨.hbm, 810, rfl⟩
abbrev main_v699 : Ref sig .tc := ⟨.hbm, 811, rfl⟩
abbrev main_v700 : Ref sig .tc := ⟨.hbm, 812, rfl⟩
abbrev main_v701 : Ref sig .tc := ⟨.hbm, 813, rfl⟩
abbrev main_v702 : Ref sig .tc := ⟨.hbm, 814, rfl⟩
abbrev main_v703 : Ref sig .tc := ⟨.hbm, 815, rfl⟩
abbrev main_cst_105 : Ref sig .tc := ⟨.hbm, 816, rfl⟩
abbrev main_v704 : Ref sig .tc := ⟨.hbm, 817, rfl⟩
abbrev main_v705 : Ref sig .tc := ⟨.hbm, 818, rfl⟩
abbrev main_cst_106 : Ref sig .tc := ⟨.hbm, 819, rfl⟩
abbrev main_v706 : Ref sig .tc := ⟨.hbm, 820, rfl⟩
abbrev main_v707 : Ref sig .tc := ⟨.hbm, 821, rfl⟩
abbrev main_v708 : Ref sig .tc := ⟨.hbm, 822, rfl⟩
abbrev main_v709 : Ref sig .tc := ⟨.hbm, 823, rfl⟩
abbrev main_v710 : Ref sig .tc := ⟨.hbm, 824, rfl⟩
abbrev main_v711 : Ref sig .tc := ⟨.hbm, 825, rfl⟩
abbrev main_v712 : Ref sig .tc := ⟨.hbm, 826, rfl⟩
abbrev main_cst_107 : Ref sig .tc := ⟨.hbm, 827, rfl⟩
abbrev main_v713 : Ref sig .tc := ⟨.hbm, 828, rfl⟩
abbrev main_v714 : Ref sig .tc := ⟨.hbm, 829, rfl⟩
abbrev main_cst_108 : Ref sig .tc := ⟨.hbm, 830, rfl⟩
abbrev main_v715 : Ref sig .tc := ⟨.hbm, 831, rfl⟩
abbrev main_v716 : Ref sig .tc := ⟨.hbm, 832, rfl⟩
abbrev main_v717 : Ref sig .tc := ⟨.hbm, 833, rfl⟩
abbrev main_v718 : Ref sig .tc := ⟨.hbm, 834, rfl⟩
abbrev main_v719 : Ref sig .tc := ⟨.hbm, 835, rfl⟩
abbrev main_cst_109 : Ref sig .tc := ⟨.hbm, 836, rfl⟩
abbrev main_v720 : Ref sig .tc := ⟨.hbm, 837, rfl⟩
abbrev main_v721 : Ref sig .tc := ⟨.hbm, 838, rfl⟩
abbrev main_cst_110 : Ref sig .tc := ⟨.hbm, 839, rfl⟩
abbrev main_v722 : Ref sig .tc := ⟨.hbm, 840, rfl⟩
abbrev main_v723 : Ref sig .tc := ⟨.hbm, 841, rfl⟩
abbrev main_v724 : Ref sig .tc := ⟨.hbm, 842, rfl⟩
abbrev main_v725 : Ref sig .tc := ⟨.hbm, 843, rfl⟩
abbrev main_v726 : Ref sig .tc := ⟨.hbm, 844, rfl⟩
abbrev main_v727 : Ref sig .tc := ⟨.hbm, 845, rfl⟩
abbrev main_v728 : Ref sig .tc := ⟨.hbm, 846, rfl⟩
abbrev main_v729 : Ref sig .tc := ⟨.hbm, 847, rfl⟩
abbrev main_v730 : Ref sig .tc := ⟨.hbm, 848, rfl⟩
abbrev main_v731 : Ref sig .tc := ⟨.hbm, 849, rfl⟩
abbrev main_v732 : Ref sig .tc := ⟨.hbm, 850, rfl⟩
abbrev main_v733 : Ref sig .tc := ⟨.hbm, 851, rfl⟩
abbrev main_v734 : Ref sig .tc := ⟨.hbm, 852, rfl⟩
abbrev main_v735 : Ref sig .tc := ⟨.hbm, 853, rfl⟩
abbrev main_v736 : Ref sig .tc := ⟨.hbm, 854, rfl⟩
abbrev main_v737 : Ref sig .tc := ⟨.hbm, 855, rfl⟩
abbrev main_v738 : Ref sig .tc := ⟨.hbm, 856, rfl⟩
abbrev main_v739 : Ref sig .tc := ⟨.hbm, 857, rfl⟩
abbrev main_v740 : Ref sig .tc := ⟨.hbm, 858, rfl⟩
abbrev main_v741 : Ref sig .tc := ⟨.hbm, 859, rfl⟩
abbrev main_v742 : Ref sig .tc := ⟨.hbm, 860, rfl⟩
abbrev main_v743 : Ref sig .tc := ⟨.hbm, 861, rfl⟩
abbrev main_v744 : Ref sig .tc := ⟨.hbm, 862, rfl⟩
abbrev main_v745 : Ref sig .tc := ⟨.hbm, 863, rfl⟩
abbrev main_v746 : Ref sig .tc := ⟨.hbm, 864, rfl⟩
abbrev main_v747 : Ref sig .tc := ⟨.hbm, 865, rfl⟩
abbrev main_v748 : Ref sig .tc := ⟨.hbm, 866, rfl⟩
abbrev main_cst_111 : Ref sig .tc := ⟨.hbm, 867, rfl⟩
abbrev main_v749 : Ref sig .tc := ⟨.hbm, 868, rfl⟩
abbrev main_v750 : Ref sig .tc := ⟨.hbm, 869, rfl⟩
abbrev main_cst_112 : Ref sig .tc := ⟨.hbm, 870, rfl⟩
abbrev main_v751 : Ref sig .tc := ⟨.hbm, 871, rfl⟩
abbrev main_v752 : Ref sig .tc := ⟨.hbm, 872, rfl⟩
abbrev main_v753 : Ref sig .tc := ⟨.hbm, 873, rfl⟩
abbrev main_v754 : Ref sig .tc := ⟨.hbm, 874, rfl⟩
abbrev main_v755 : Ref sig .tc := ⟨.hbm, 875, rfl⟩
abbrev main_cst_113 : Ref sig .tc := ⟨.hbm, 876, rfl⟩
abbrev main_v756 : Ref sig .tc := ⟨.hbm, 877, rfl⟩
abbrev main_v757 : Ref sig .tc := ⟨.hbm, 878, rfl⟩
abbrev main_cst_114 : Ref sig .tc := ⟨.hbm, 879, rfl⟩
abbrev main_v758 : Ref sig .tc := ⟨.hbm, 880, rfl⟩
abbrev main_v759 : Ref sig .tc := ⟨.hbm, 881, rfl⟩
abbrev main_v760 : Ref sig .tc := ⟨.hbm, 882, rfl⟩
abbrev main_v761 : Ref sig .tc := ⟨.hbm, 883, rfl⟩
abbrev main_v762 : Ref sig .tc := ⟨.hbm, 884, rfl⟩
abbrev main_v763 : Ref sig .tc := ⟨.hbm, 885, rfl⟩
abbrev main_v764 : Ref sig .tc := ⟨.hbm, 886, rfl⟩
abbrev main_cst_115 : Ref sig .tc := ⟨.hbm, 887, rfl⟩
abbrev main_v765 : Ref sig .tc := ⟨.hbm, 888, rfl⟩
abbrev main_v766 : Ref sig .tc := ⟨.hbm, 889, rfl⟩
abbrev main_cst_116 : Ref sig .tc := ⟨.hbm, 890, rfl⟩
abbrev main_v767 : Ref sig .tc := ⟨.hbm, 891, rfl⟩
abbrev main_v768 : Ref sig .tc := ⟨.hbm, 892, rfl⟩
abbrev main_v769 : Ref sig .tc := ⟨.hbm, 893, rfl⟩
abbrev main_v770 : Ref sig .tc := ⟨.hbm, 894, rfl⟩
abbrev main_v771 : Ref sig .tc := ⟨.hbm, 895, rfl⟩
abbrev main_cst_117 : Ref sig .tc := ⟨.hbm, 896, rfl⟩
abbrev main_v772 : Ref sig .tc := ⟨.hbm, 897, rfl⟩
abbrev main_v773 : Ref sig .tc := ⟨.hbm, 898, rfl⟩
abbrev main_cst_118 : Ref sig .tc := ⟨.hbm, 899, rfl⟩
abbrev main_v774 : Ref sig .tc := ⟨.hbm, 900, rfl⟩
abbrev main_v775 : Ref sig .tc := ⟨.hbm, 901, rfl⟩
abbrev main_v776 : Ref sig .tc := ⟨.hbm, 902, rfl⟩
abbrev main_v777 : Ref sig .tc := ⟨.hbm, 903, rfl⟩
abbrev main_v778 : Ref sig .tc := ⟨.hbm, 904, rfl⟩
abbrev main_v779 : Ref sig .tc := ⟨.hbm, 905, rfl⟩
abbrev main_v780 : Ref sig .tc := ⟨.hbm, 906, rfl⟩
abbrev main_v781 : Ref sig .tc := ⟨.hbm, 907, rfl⟩
abbrev main_v782 : Ref sig .tc := ⟨.hbm, 908, rfl⟩
abbrev main_v783 : Ref sig .tc := ⟨.hbm, 909, rfl⟩
abbrev main_v784 : Ref sig .tc := ⟨.hbm, 910, rfl⟩
abbrev main_v785 : Ref sig .tc := ⟨.hbm, 911, rfl⟩
abbrev main_v786 : Ref sig .tc := ⟨.hbm, 912, rfl⟩
abbrev main_v787 : Ref sig .tc := ⟨.hbm, 913, rfl⟩
abbrev main_v788 : Ref sig .tc := ⟨.hbm, 914, rfl⟩
abbrev main_v789 : Ref sig .tc := ⟨.hbm, 915, rfl⟩
abbrev main_v790 : Ref sig .tc := ⟨.hbm, 916, rfl⟩
abbrev main_v791 : Ref sig .tc := ⟨.hbm, 917, rfl⟩
abbrev main_v792 : Ref sig .tc := ⟨.hbm, 918, rfl⟩
abbrev main_v793 : Ref sig .tc := ⟨.hbm, 919, rfl⟩
abbrev main_v794 : Ref sig .tc := ⟨.hbm, 920, rfl⟩
abbrev main_v795 : Ref sig .tc := ⟨.hbm, 921, rfl⟩
abbrev main_v796 : Ref sig .tc := ⟨.hbm, 922, rfl⟩
abbrev main_v797 : Ref sig .tc := ⟨.hbm, 923, rfl⟩
abbrev main_v798 : Ref sig .tc := ⟨.hbm, 924, rfl⟩
abbrev main_v799 : Ref sig .tc := ⟨.hbm, 925, rfl⟩
abbrev main_v800 : Ref sig .tc := ⟨.hbm, 926, rfl⟩
abbrev main_cst_119 : Ref sig .tc := ⟨.hbm, 927, rfl⟩
abbrev main_v801 : Ref sig .tc := ⟨.hbm, 928, rfl⟩
abbrev main_v802 : Ref sig .tc := ⟨.hbm, 929, rfl⟩
abbrev main_cst_120 : Ref sig .tc := ⟨.hbm, 930, rfl⟩
abbrev main_v803 : Ref sig .tc := ⟨.hbm, 931, rfl⟩
abbrev main_v804 : Ref sig .tc := ⟨.hbm, 932, rfl⟩
abbrev main_v805 : Ref sig .tc := ⟨.hbm, 933, rfl⟩
abbrev main_v806 : Ref sig .tc := ⟨.hbm, 934, rfl⟩
abbrev main_v807 : Ref sig .tc := ⟨.hbm, 935, rfl⟩
abbrev main_cst_121 : Ref sig .tc := ⟨.hbm, 936, rfl⟩
abbrev main_v808 : Ref sig .tc := ⟨.hbm, 937, rfl⟩
abbrev main_v809 : Ref sig .tc := ⟨.hbm, 938, rfl⟩
abbrev main_cst_122 : Ref sig .tc := ⟨.hbm, 939, rfl⟩
abbrev main_v810 : Ref sig .tc := ⟨.hbm, 940, rfl⟩
abbrev main_v811 : Ref sig .tc := ⟨.hbm, 941, rfl⟩
abbrev main_v812 : Ref sig .tc := ⟨.hbm, 942, rfl⟩
abbrev main_v813 : Ref sig .tc := ⟨.hbm, 943, rfl⟩
abbrev main_v814 : Ref sig .tc := ⟨.hbm, 944, rfl⟩
abbrev main_v815 : Ref sig .tc := ⟨.hbm, 945, rfl⟩
abbrev main_v816 : Ref sig .tc := ⟨.hbm, 946, rfl⟩
abbrev main_cst_123 : Ref sig .tc := ⟨.hbm, 947, rfl⟩
abbrev main_v817 : Ref sig .tc := ⟨.hbm, 948, rfl⟩
abbrev main_v818 : Ref sig .tc := ⟨.hbm, 949, rfl⟩
abbrev main_cst_124 : Ref sig .tc := ⟨.hbm, 950, rfl⟩
abbrev main_v819 : Ref sig .tc := ⟨.hbm, 951, rfl⟩
abbrev main_v820 : Ref sig .tc := ⟨.hbm, 952, rfl⟩
abbrev main_v821 : Ref sig .tc := ⟨.hbm, 953, rfl⟩
abbrev main_v822 : Ref sig .tc := ⟨.hbm, 954, rfl⟩
abbrev main_v823 : Ref sig .tc := ⟨.hbm, 955, rfl⟩
abbrev main_cst_125 : Ref sig .tc := ⟨.hbm, 956, rfl⟩
abbrev main_v824 : Ref sig .tc := ⟨.hbm, 957, rfl⟩
abbrev main_v825 : Ref sig .tc := ⟨.hbm, 958, rfl⟩
abbrev main_cst_126 : Ref sig .tc := ⟨.hbm, 959, rfl⟩
abbrev main_v826 : Ref sig .tc := ⟨.hbm, 960, rfl⟩
abbrev main_v827 : Ref sig .tc := ⟨.hbm, 961, rfl⟩
abbrev main_v828 : Ref sig .tc := ⟨.hbm, 962, rfl⟩
abbrev main_v829 : Ref sig .tc := ⟨.hbm, 963, rfl⟩
abbrev main_v830 : Ref sig .tc := ⟨.hbm, 964, rfl⟩
abbrev main_v831 : Ref sig .tc := ⟨.hbm, 965, rfl⟩
abbrev main_v832 : Ref sig .tc := ⟨.hbm, 966, rfl⟩
abbrev main_v833 : Ref sig .tc := ⟨.hbm, 967, rfl⟩
abbrev main_v834 : Ref sig .tc := ⟨.hbm, 968, rfl⟩
abbrev main_v835 : Ref sig .tc := ⟨.hbm, 969, rfl⟩
abbrev main_v836 : Ref sig .tc := ⟨.hbm, 970, rfl⟩
abbrev main_v837 : Ref sig .tc := ⟨.hbm, 971, rfl⟩
abbrev main_v838 : Ref sig .tc := ⟨.hbm, 972, rfl⟩
abbrev main_v839 : Ref sig .tc := ⟨.hbm, 973, rfl⟩
abbrev main_v840 : Ref sig .tc := ⟨.hbm, 974, rfl⟩
abbrev main_v841 : Ref sig .tc := ⟨.hbm, 975, rfl⟩
abbrev main_v842 : Ref sig .tc := ⟨.hbm, 976, rfl⟩
abbrev main_v843 : Ref sig .tc := ⟨.hbm, 977, rfl⟩
abbrev main_v844 : Ref sig .tc := ⟨.hbm, 978, rfl⟩
abbrev main_v845 : Ref sig .tc := ⟨.hbm, 979, rfl⟩
abbrev main_v846 : Ref sig .tc := ⟨.hbm, 980, rfl⟩
abbrev main_v847 : Ref sig .tc := ⟨.hbm, 981, rfl⟩
abbrev main_v848 : Ref sig .tc := ⟨.hbm, 982, rfl⟩
abbrev main_v849 : Ref sig .tc := ⟨.hbm, 983, rfl⟩
abbrev main_v850 : Ref sig .tc := ⟨.hbm, 984, rfl⟩
abbrev main_v851 : Ref sig .tc := ⟨.hbm, 985, rfl⟩
abbrev main_v852 : Ref sig .tc := ⟨.hbm, 986, rfl⟩
abbrev main_cst_127 : Ref sig .tc := ⟨.hbm, 987, rfl⟩
abbrev main_v853 : Ref sig .tc := ⟨.hbm, 988, rfl⟩
abbrev main_v854 : Ref sig .tc := ⟨.hbm, 989, rfl⟩
abbrev main_cst_128 : Ref sig .tc := ⟨.hbm, 990, rfl⟩
abbrev main_v855 : Ref sig .tc := ⟨.hbm, 991, rfl⟩
abbrev main_v856 : Ref sig .tc := ⟨.hbm, 992, rfl⟩
abbrev main_v857 : Ref sig .tc := ⟨.hbm, 993, rfl⟩
abbrev main_v858 : Ref sig .tc := ⟨.hbm, 994, rfl⟩
abbrev main_v859 : Ref sig .tc := ⟨.hbm, 995, rfl⟩
abbrev main_cst_129 : Ref sig .tc := ⟨.hbm, 996, rfl⟩
abbrev main_v860 : Ref sig .tc := ⟨.hbm, 997, rfl⟩
abbrev main_v861 : Ref sig .tc := ⟨.hbm, 998, rfl⟩
abbrev main_cst_130 : Ref sig .tc := ⟨.hbm, 999, rfl⟩
abbrev main_v862 : Ref sig .tc := ⟨.hbm, 1000, rfl⟩
abbrev main_v863 : Ref sig .tc := ⟨.hbm, 1001, rfl⟩
abbrev main_v864 : Ref sig .tc := ⟨.hbm, 1002, rfl⟩
abbrev main_v865 : Ref sig .tc := ⟨.hbm, 1003, rfl⟩
abbrev main_v866 : Ref sig .tc := ⟨.hbm, 1004, rfl⟩
abbrev main_v867 : Ref sig .tc := ⟨.hbm, 1005, rfl⟩
abbrev main_v868 : Ref sig .tc := ⟨.hbm, 1006, rfl⟩
abbrev main_cst_131 : Ref sig .tc := ⟨.hbm, 1007, rfl⟩
abbrev main_v869 : Ref sig .tc := ⟨.hbm, 1008, rfl⟩
abbrev main_v870 : Ref sig .tc := ⟨.hbm, 1009, rfl⟩
abbrev main_cst_132 : Ref sig .tc := ⟨.hbm, 1010, rfl⟩
abbrev main_v871 : Ref sig .tc := ⟨.hbm, 1011, rfl⟩
abbrev main_v872 : Ref sig .tc := ⟨.hbm, 1012, rfl⟩
abbrev main_v873 : Ref sig .tc := ⟨.hbm, 1013, rfl⟩
abbrev main_v874 : Ref sig .tc := ⟨.hbm, 1014, rfl⟩
abbrev main_v875 : Ref sig .tc := ⟨.hbm, 1015, rfl⟩
abbrev main_cst_133 : Ref sig .tc := ⟨.hbm, 1016, rfl⟩
abbrev main_v876 : Ref sig .tc := ⟨.hbm, 1017, rfl⟩
abbrev main_v877 : Ref sig .tc := ⟨.hbm, 1018, rfl⟩
abbrev main_cst_134 : Ref sig .tc := ⟨.hbm, 1019, rfl⟩
abbrev main_v878 : Ref sig .tc := ⟨.hbm, 1020, rfl⟩
abbrev main_v879 : Ref sig .tc := ⟨.hbm, 1021, rfl⟩
abbrev main_v880 : Ref sig .tc := ⟨.hbm, 1022, rfl⟩
abbrev main_v881 : Ref sig .tc := ⟨.hbm, 1023, rfl⟩
abbrev main_v882 : Ref sig .tc := ⟨.hbm, 1024, rfl⟩
abbrev main_v883 : Ref sig .tc := ⟨.hbm, 1025, rfl⟩
abbrev main_v884 : Ref sig .tc := ⟨.hbm, 1026, rfl⟩
abbrev main_v885 : Ref sig .tc := ⟨.hbm, 1027, rfl⟩
abbrev main_v886 : Ref sig .tc := ⟨.hbm, 1028, rfl⟩
abbrev main_v887 : Ref sig .tc := ⟨.hbm, 1029, rfl⟩
abbrev main_v888 : Ref sig .tc := ⟨.hbm, 1030, rfl⟩
abbrev main_v889 : Ref sig .tc := ⟨.hbm, 1031, rfl⟩
abbrev main_v890 : Ref sig .tc := ⟨.hbm, 1032, rfl⟩
abbrev main_v891 : Ref sig .tc := ⟨.hbm, 1033, rfl⟩
abbrev main_v892 : Ref sig .tc := ⟨.hbm, 1034, rfl⟩
abbrev main_v893 : Ref sig .tc := ⟨.hbm, 1035, rfl⟩
abbrev main_v894 : Ref sig .tc := ⟨.hbm, 1036, rfl⟩
abbrev main_v895 : Ref sig .tc := ⟨.hbm, 1037, rfl⟩
abbrev main_v896 : Ref sig .tc := ⟨.hbm, 1038, rfl⟩
abbrev main_v897 : Ref sig .tc := ⟨.hbm, 1039, rfl⟩
abbrev main_v898 : Ref sig .tc := ⟨.hbm, 1040, rfl⟩
abbrev main_v899 : Ref sig .tc := ⟨.hbm, 1041, rfl⟩
abbrev main_v900 : Ref sig .tc := ⟨.hbm, 1042, rfl⟩
abbrev main_v901 : Ref sig .tc := ⟨.hbm, 1043, rfl⟩
abbrev main_v902 : Ref sig .tc := ⟨.hbm, 1044, rfl⟩
abbrev main_v903 : Ref sig .tc := ⟨.hbm, 1045, rfl⟩
abbrev main_v904 : Ref sig .tc := ⟨.hbm, 1046, rfl⟩
abbrev main_cst_135 : Ref sig .tc := ⟨.hbm, 1047, rfl⟩
abbrev main_v905 : Ref sig .tc := ⟨.hbm, 1048, rfl⟩
abbrev main_v906 : Ref sig .tc := ⟨.hbm, 1049, rfl⟩
abbrev main_cst_136 : Ref sig .tc := ⟨.hbm, 1050, rfl⟩
abbrev main_v907 : Ref sig .tc := ⟨.hbm, 1051, rfl⟩
abbrev main_v908 : Ref sig .tc := ⟨.hbm, 1052, rfl⟩
abbrev main_v909 : Ref sig .tc := ⟨.hbm, 1053, rfl⟩
abbrev main_v910 : Ref sig .tc := ⟨.hbm, 1054, rfl⟩
abbrev main_v911 : Ref sig .tc := ⟨.hbm, 1055, rfl⟩
abbrev main_cst_137 : Ref sig .tc := ⟨.hbm, 1056, rfl⟩
abbrev main_v912 : Ref sig .tc := ⟨.hbm, 1057, rfl⟩
abbrev main_v913 : Ref sig .tc := ⟨.hbm, 1058, rfl⟩
abbrev main_cst_138 : Ref sig .tc := ⟨.hbm, 1059, rfl⟩
abbrev main_v914 : Ref sig .tc := ⟨.hbm, 1060, rfl⟩
abbrev main_v915 : Ref sig .tc := ⟨.hbm, 1061, rfl⟩
abbrev main_v916 : Ref sig .tc := ⟨.hbm, 1062, rfl⟩
abbrev main_v917 : Ref sig .tc := ⟨.hbm, 1063, rfl⟩
abbrev main_v918 : Ref sig .tc := ⟨.hbm, 1064, rfl⟩
abbrev main_v919 : Ref sig .tc := ⟨.hbm, 1065, rfl⟩
abbrev main_v920 : Ref sig .tc := ⟨.hbm, 1066, rfl⟩
abbrev main_cst_139 : Ref sig .tc := ⟨.hbm, 1067, rfl⟩
abbrev main_v921 : Ref sig .tc := ⟨.hbm, 1068, rfl⟩
abbrev main_v922 : Ref sig .tc := ⟨.hbm, 1069, rfl⟩
abbrev main_cst_140 : Ref sig .tc := ⟨.hbm, 1070, rfl⟩
abbrev main_v923 : Ref sig .tc := ⟨.hbm, 1071, rfl⟩
abbrev main_v924 : Ref sig .tc := ⟨.hbm, 1072, rfl⟩
abbrev main_v925 : Ref sig .tc := ⟨.hbm, 1073, rfl⟩
abbrev main_v926 : Ref sig .tc := ⟨.hbm, 1074, rfl⟩
abbrev main_v927 : Ref sig .tc := ⟨.hbm, 1075, rfl⟩
abbrev main_cst_141 : Ref sig .tc := ⟨.hbm, 1076, rfl⟩
abbrev main_v928 : Ref sig .tc := ⟨.hbm, 1077, rfl⟩
abbrev main_v929 : Ref sig .tc := ⟨.hbm, 1078, rfl⟩
abbrev main_cst_142 : Ref sig .tc := ⟨.hbm, 1079, rfl⟩
abbrev main_v930 : Ref sig .tc := ⟨.hbm, 1080, rfl⟩
abbrev main_v931 : Ref sig .tc := ⟨.hbm, 1081, rfl⟩
abbrev main_v932 : Ref sig .tc := ⟨.hbm, 1082, rfl⟩
abbrev main_v933 : Ref sig .tc := ⟨.hbm, 1083, rfl⟩
abbrev main_v934 : Ref sig .tc := ⟨.hbm, 1084, rfl⟩
abbrev main_v935 : Ref sig .tc := ⟨.hbm, 1085, rfl⟩
abbrev main_v936 : Ref sig .tc := ⟨.hbm, 1086, rfl⟩
abbrev main_v937 : Ref sig .tc := ⟨.hbm, 1087, rfl⟩
abbrev main_v938 : Ref sig .tc := ⟨.hbm, 1088, rfl⟩
abbrev main_v939 : Ref sig .tc := ⟨.hbm, 1089, rfl⟩
abbrev main_v940 : Ref sig .tc := ⟨.hbm, 1090, rfl⟩
abbrev main_v941 : Ref sig .tc := ⟨.hbm, 1091, rfl⟩
abbrev main_v942 : Ref sig .tc := ⟨.hbm, 1092, rfl⟩
abbrev main_v943 : Ref sig .tc := ⟨.hbm, 1093, rfl⟩
abbrev main_v944 : Ref sig .tc := ⟨.hbm, 1094, rfl⟩
abbrev main_v945 : Ref sig .tc := ⟨.hbm, 1095, rfl⟩
abbrev main_v946 : Ref sig .tc := ⟨.hbm, 1096, rfl⟩
abbrev main_v947 : Ref sig .tc := ⟨.hbm, 1097, rfl⟩
abbrev main_v948 : Ref sig .tc := ⟨.hbm, 1098, rfl⟩
abbrev main_v949 : Ref sig .tc := ⟨.hbm, 1099, rfl⟩
abbrev main_v950 : Ref sig .tc := ⟨.hbm, 1100, rfl⟩
abbrev main_v951 : Ref sig .tc := ⟨.hbm, 1101, rfl⟩
abbrev main_v952 : Ref sig .tc := ⟨.hbm, 1102, rfl⟩
abbrev main_v953 : Ref sig .tc := ⟨.hbm, 1103, rfl⟩
abbrev main_v954 : Ref sig .tc := ⟨.hbm, 1104, rfl⟩
abbrev main_v955 : Ref sig .tc := ⟨.hbm, 1105, rfl⟩
abbrev main_v956 : Ref sig .tc := ⟨.hbm, 1106, rfl⟩
abbrev main_cst_143 : Ref sig .tc := ⟨.hbm, 1107, rfl⟩
abbrev main_v957 : Ref sig .tc := ⟨.hbm, 1108, rfl⟩
abbrev main_v958 : Ref sig .tc := ⟨.hbm, 1109, rfl⟩
abbrev main_cst_144 : Ref sig .tc := ⟨.hbm, 1110, rfl⟩
abbrev main_v959 : Ref sig .tc := ⟨.hbm, 1111, rfl⟩
abbrev main_v960 : Ref sig .tc := ⟨.hbm, 1112, rfl⟩
abbrev main_v961 : Ref sig .tc := ⟨.hbm, 1113, rfl⟩
abbrev main_v962 : Ref sig .tc := ⟨.hbm, 1114, rfl⟩
abbrev main_v963 : Ref sig .tc := ⟨.hbm, 1115, rfl⟩
abbrev main_cst_145 : Ref sig .tc := ⟨.hbm, 1116, rfl⟩
abbrev main_v964 : Ref sig .tc := ⟨.hbm, 1117, rfl⟩
abbrev main_v965 : Ref sig .tc := ⟨.hbm, 1118, rfl⟩
abbrev main_cst_146 : Ref sig .tc := ⟨.hbm, 1119, rfl⟩
abbrev main_v966 : Ref sig .tc := ⟨.hbm, 1120, rfl⟩
abbrev main_v967 : Ref sig .tc := ⟨.hbm, 1121, rfl⟩
abbrev main_v968 : Ref sig .tc := ⟨.hbm, 1122, rfl⟩
abbrev main_v969 : Ref sig .tc := ⟨.hbm, 1123, rfl⟩
abbrev main_v970 : Ref sig .tc := ⟨.hbm, 1124, rfl⟩
abbrev main_v971 : Ref sig .tc := ⟨.hbm, 1125, rfl⟩
abbrev main_v972 : Ref sig .tc := ⟨.hbm, 1126, rfl⟩
abbrev main_cst_147 : Ref sig .tc := ⟨.hbm, 1127, rfl⟩
abbrev main_v973 : Ref sig .tc := ⟨.hbm, 1128, rfl⟩
abbrev main_v974 : Ref sig .tc := ⟨.hbm, 1129, rfl⟩
abbrev main_cst_148 : Ref sig .tc := ⟨.hbm, 1130, rfl⟩
abbrev main_v975 : Ref sig .tc := ⟨.hbm, 1131, rfl⟩
abbrev main_v976 : Ref sig .tc := ⟨.hbm, 1132, rfl⟩
abbrev main_v977 : Ref sig .tc := ⟨.hbm, 1133, rfl⟩
abbrev main_v978 : Ref sig .tc := ⟨.hbm, 1134, rfl⟩
abbrev main_v979 : Ref sig .tc := ⟨.hbm, 1135, rfl⟩
abbrev main_cst_149 : Ref sig .tc := ⟨.hbm, 1136, rfl⟩
abbrev main_v980 : Ref sig .tc := ⟨.hbm, 1137, rfl⟩
abbrev main_v981 : Ref sig .tc := ⟨.hbm, 1138, rfl⟩
abbrev main_cst_150 : Ref sig .tc := ⟨.hbm, 1139, rfl⟩
abbrev main_v982 : Ref sig .tc := ⟨.hbm, 1140, rfl⟩
abbrev main_v983 : Ref sig .tc := ⟨.hbm, 1141, rfl⟩
abbrev main_v984 : Ref sig .tc := ⟨.hbm, 1142, rfl⟩
abbrev main_v985 : Ref sig .tc := ⟨.hbm, 1143, rfl⟩
abbrev main_v986 : Ref sig .tc := ⟨.hbm, 1144, rfl⟩
abbrev main_v987 : Ref sig .tc := ⟨.hbm, 1145, rfl⟩
abbrev main_v988 : Ref sig .tc := ⟨.hbm, 1146, rfl⟩
abbrev main_v989 : Ref sig .tc := ⟨.hbm, 1147, rfl⟩
abbrev main_v990 : Ref sig .tc := ⟨.hbm, 1148, rfl⟩
abbrev main_v991 : Ref sig .tc := ⟨.hbm, 1149, rfl⟩
abbrev main_v992 : Ref sig .tc := ⟨.hbm, 1150, rfl⟩
abbrev main_v993 : Ref sig .tc := ⟨.hbm, 1151, rfl⟩
abbrev main_v994 : Ref sig .tc := ⟨.hbm, 1152, rfl⟩
abbrev main_v995 : Ref sig .tc := ⟨.hbm, 1153, rfl⟩
abbrev main_v996 : Ref sig .tc := ⟨.hbm, 1154, rfl⟩
abbrev main_v997 : Ref sig .tc := ⟨.hbm, 1155, rfl⟩
abbrev main_v998 : Ref sig .tc := ⟨.hbm, 1156, rfl⟩
abbrev main_v999 : Ref sig .tc := ⟨.hbm, 1157, rfl⟩
abbrev main_v1000 : Ref sig .tc := ⟨.hbm, 1158, rfl⟩
abbrev main_v1001 : Ref sig .tc := ⟨.hbm, 1159, rfl⟩
abbrev main_v1002 : Ref sig .tc := ⟨.hbm, 1160, rfl⟩
abbrev main_v1003 : Ref sig .tc := ⟨.hbm, 1161, rfl⟩
abbrev main_v1004 : Ref sig .tc := ⟨.hbm, 1162, rfl⟩
abbrev main_v1005 : Ref sig .tc := ⟨.hbm, 1163, rfl⟩
abbrev main_v1006 : Ref sig .tc := ⟨.hbm, 1164, rfl⟩
abbrev main_v1007 : Ref sig .tc := ⟨.hbm, 1165, rfl⟩
abbrev main_v1008 : Ref sig .tc := ⟨.hbm, 1166, rfl⟩
abbrev main_cst_151 : Ref sig .tc := ⟨.hbm, 1167, rfl⟩
abbrev main_v1009 : Ref sig .tc := ⟨.hbm, 1168, rfl⟩
abbrev main_v1010 : Ref sig .tc := ⟨.hbm, 1169, rfl⟩
abbrev main_cst_152 : Ref sig .tc := ⟨.hbm, 1170, rfl⟩
abbrev main_v1011 : Ref sig .tc := ⟨.hbm, 1171, rfl⟩
abbrev main_v1012 : Ref sig .tc := ⟨.hbm, 1172, rfl⟩
abbrev main_v1013 : Ref sig .tc := ⟨.hbm, 1173, rfl⟩
abbrev main_v1014 : Ref sig .tc := ⟨.hbm, 1174, rfl⟩
abbrev main_v1015 : Ref sig .tc := ⟨.hbm, 1175, rfl⟩
abbrev main_cst_153 : Ref sig .tc := ⟨.hbm, 1176, rfl⟩
abbrev main_v1016 : Ref sig .tc := ⟨.hbm, 1177, rfl⟩
abbrev main_v1017 : Ref sig .tc := ⟨.hbm, 1178, rfl⟩
abbrev main_cst_154 : Ref sig .tc := ⟨.hbm, 1179, rfl⟩
abbrev main_v1018 : Ref sig .tc := ⟨.hbm, 1180, rfl⟩
abbrev main_v1019 : Ref sig .tc := ⟨.hbm, 1181, rfl⟩
abbrev main_v1020 : Ref sig .tc := ⟨.hbm, 1182, rfl⟩
abbrev main_v1021 : Ref sig .tc := ⟨.hbm, 1183, rfl⟩
abbrev main_v1022 : Ref sig .tc := ⟨.hbm, 1184, rfl⟩
abbrev main_v1023 : Ref sig .tc := ⟨.hbm, 1185, rfl⟩
abbrev main_v1024 : Ref sig .tc := ⟨.hbm, 1186, rfl⟩
abbrev main_cst_155 : Ref sig .tc := ⟨.hbm, 1187, rfl⟩
abbrev main_v1025 : Ref sig .tc := ⟨.hbm, 1188, rfl⟩
abbrev main_v1026 : Ref sig .tc := ⟨.hbm, 1189, rfl⟩
abbrev main_cst_156 : Ref sig .tc := ⟨.hbm, 1190, rfl⟩
abbrev main_v1027 : Ref sig .tc := ⟨.hbm, 1191, rfl⟩
abbrev main_v1028 : Ref sig .tc := ⟨.hbm, 1192, rfl⟩
abbrev main_v1029 : Ref sig .tc := ⟨.hbm, 1193, rfl⟩
abbrev main_v1030 : Ref sig .tc := ⟨.hbm, 1194, rfl⟩
abbrev main_v1031 : Ref sig .tc := ⟨.hbm, 1195, rfl⟩
abbrev main_cst_157 : Ref sig .tc := ⟨.hbm, 1196, rfl⟩
abbrev main_v1032 : Ref sig .tc := ⟨.hbm, 1197, rfl⟩
abbrev main_v1033 : Ref sig .tc := ⟨.hbm, 1198, rfl⟩
abbrev main_cst_158 : Ref sig .tc := ⟨.hbm, 1199, rfl⟩
abbrev main_v1034 : Ref sig .tc := ⟨.hbm, 1200, rfl⟩
abbrev main_v1035 : Ref sig .tc := ⟨.hbm, 1201, rfl⟩
abbrev main_v1036 : Ref sig .tc := ⟨.hbm, 1202, rfl⟩
abbrev main_v1037 : Ref sig .tc := ⟨.hbm, 1203, rfl⟩
abbrev main_v1038 : Ref sig .tc := ⟨.hbm, 1204, rfl⟩
abbrev main_v1039 : Ref sig .tc := ⟨.hbm, 1205, rfl⟩
abbrev main_v1040 : Ref sig .tc := ⟨.hbm, 1206, rfl⟩
abbrev main_v1041 : Ref sig .tc := ⟨.hbm, 1207, rfl⟩
abbrev main_v1042 : Ref sig .tc := ⟨.hbm, 1208, rfl⟩
abbrev main_v1043 : Ref sig .tc := ⟨.hbm, 1209, rfl⟩
abbrev main_v1044 : Ref sig .tc := ⟨.hbm, 1210, rfl⟩
abbrev main_v1045 : Ref sig .tc := ⟨.hbm, 1211, rfl⟩
abbrev main_v1046 : Ref sig .tc := ⟨.hbm, 1212, rfl⟩
abbrev main_v1047 : Ref sig .tc := ⟨.hbm, 1213, rfl⟩
abbrev main_v1048 : Ref sig .tc := ⟨.hbm, 1214, rfl⟩
abbrev main_v1049 : Ref sig .tc := ⟨.hbm, 1215, rfl⟩
abbrev main_v1050 : Ref sig .tc := ⟨.hbm, 1216, rfl⟩
abbrev main_v1051 : Ref sig .tc := ⟨.hbm, 1217, rfl⟩
abbrev main_v1052 : Ref sig .tc := ⟨.hbm, 1218, rfl⟩
abbrev main_v1053 : Ref sig .tc := ⟨.hbm, 1219, rfl⟩
abbrev main_v1054 : Ref sig .tc := ⟨.hbm, 1220, rfl⟩
abbrev main_v1055 : Ref sig .tc := ⟨.hbm, 1221, rfl⟩
abbrev main_v1056 : Ref sig .tc := ⟨.hbm, 1222, rfl⟩
abbrev main_v1057 : Ref sig .tc := ⟨.hbm, 1223, rfl⟩
abbrev main_v1058 : Ref sig .tc := ⟨.hbm, 1224, rfl⟩
abbrev main_v1059 : Ref sig .tc := ⟨.hbm, 1225, rfl⟩
abbrev main_cst_159 : Ref sig .tc := ⟨.hbm, 1226, rfl⟩
abbrev main_v1060 : Ref sig .tc := ⟨.hbm, 1227, rfl⟩
abbrev main_v1061 : Ref sig .tc := ⟨.hbm, 1228, rfl⟩
abbrev main_cst_160 : Ref sig .tc := ⟨.hbm, 1229, rfl⟩
abbrev main_v1062 : Ref sig .tc := ⟨.hbm, 1230, rfl⟩
abbrev main_v1063 : Ref sig .tc := ⟨.hbm, 1231, rfl⟩
abbrev main_v1064 : Ref sig .tc := ⟨.hbm, 1232, rfl⟩
abbrev main_v1065 : Ref sig .tc := ⟨.hbm, 1233, rfl⟩
abbrev main_v1066 : Ref sig .tc := ⟨.hbm, 1234, rfl⟩
abbrev main_cst_161 : Ref sig .tc := ⟨.hbm, 1235, rfl⟩
abbrev main_v1067 : Ref sig .tc := ⟨.hbm, 1236, rfl⟩
abbrev main_v1068 : Ref sig .tc := ⟨.hbm, 1237, rfl⟩
abbrev main_cst_162 : Ref sig .tc := ⟨.hbm, 1238, rfl⟩
abbrev main_v1069 : Ref sig .tc := ⟨.hbm, 1239, rfl⟩
abbrev main_v1070 : Ref sig .tc := ⟨.hbm, 1240, rfl⟩
abbrev main_v1071 : Ref sig .tc := ⟨.hbm, 1241, rfl⟩
abbrev main_v1072 : Ref sig .tc := ⟨.hbm, 1242, rfl⟩
abbrev main_v1073 : Ref sig .tc := ⟨.hbm, 1243, rfl⟩
abbrev main_v1074 : Ref sig .tc := ⟨.hbm, 1244, rfl⟩
abbrev main_v1075 : Ref sig .tc := ⟨.hbm, 1245, rfl⟩
abbrev main_cst_163 : Ref sig .tc := ⟨.hbm, 1246, rfl⟩
abbrev main_v1076 : Ref sig .tc := ⟨.hbm, 1247, rfl⟩
abbrev main_v1077 : Ref sig .tc := ⟨.hbm, 1248, rfl⟩
abbrev main_cst_164 : Ref sig .tc := ⟨.hbm, 1249, rfl⟩
abbrev main_v1078 : Ref sig .tc := ⟨.hbm, 1250, rfl⟩
abbrev main_v1079 : Ref sig .tc := ⟨.hbm, 1251, rfl⟩
abbrev main_v1080 : Ref sig .tc := ⟨.hbm, 1252, rfl⟩
abbrev main_v1081 : Ref sig .tc := ⟨.hbm, 1253, rfl⟩
abbrev main_v1082 : Ref sig .tc := ⟨.hbm, 1254, rfl⟩
abbrev main_cst_165 : Ref sig .tc := ⟨.hbm, 1255, rfl⟩
abbrev main_v1083 : Ref sig .tc := ⟨.hbm, 1256, rfl⟩
abbrev main_v1084 : Ref sig .tc := ⟨.hbm, 1257, rfl⟩
abbrev main_cst_166 : Ref sig .tc := ⟨.hbm, 1258, rfl⟩
abbrev main_v1085 : Ref sig .tc := ⟨.hbm, 1259, rfl⟩
abbrev main_v1086 : Ref sig .tc := ⟨.hbm, 1260, rfl⟩
abbrev main_v1087 : Ref sig .tc := ⟨.hbm, 1261, rfl⟩
abbrev main_v1088 : Ref sig .tc := ⟨.hbm, 1262, rfl⟩
abbrev main_v1089 : Ref sig .tc := ⟨.hbm, 1263, rfl⟩
abbrev main_v1090 : Ref sig .tc := ⟨.hbm, 1264, rfl⟩
abbrev main_v1091 : Ref sig .tc := ⟨.hbm, 1265, rfl⟩
abbrev main_v1092 : Ref sig .tc := ⟨.hbm, 1266, rfl⟩
abbrev main_v1093 : Ref sig .tc := ⟨.hbm, 1267, rfl⟩
abbrev main_v1094 : Ref sig .tc := ⟨.hbm, 1268, rfl⟩
abbrev main_v1095 : Ref sig .tc := ⟨.hbm, 1269, rfl⟩
abbrev main_v1096 : Ref sig .tc := ⟨.hbm, 1270, rfl⟩
abbrev main_v1097 : Ref sig .tc := ⟨.hbm, 1271, rfl⟩
abbrev main_v1098 : Ref sig .tc := ⟨.hbm, 1272, rfl⟩
abbrev main_v1099 : Ref sig .tc := ⟨.hbm, 1273, rfl⟩
abbrev main_v1100 : Ref sig .tc := ⟨.hbm, 1274, rfl⟩
abbrev main_cst_167 : Ref sig .tc := ⟨.hbm, 1275, rfl⟩
abbrev main_v1101 : Ref sig .tc := ⟨.hbm, 1276, rfl⟩
abbrev main_v1102 : Ref sig .tc := ⟨.hbm, 1277, rfl⟩
abbrev main_cst_168 : Ref sig .tc := ⟨.hbm, 1278, rfl⟩
abbrev main_v1103 : Ref sig .tc := ⟨.hbm, 1279, rfl⟩
abbrev main_v1104 : Ref sig .tc := ⟨.hbm, 1280, rfl⟩
abbrev main_v1105 : Ref sig .tc := ⟨.hbm, 1281, rfl⟩
abbrev main_v1106 : Ref sig .tc := ⟨.hbm, 1282, rfl⟩
abbrev main_v1107 : Ref sig .tc := ⟨.hbm, 1283, rfl⟩
abbrev main_cst_169 : Ref sig .tc := ⟨.hbm, 1284, rfl⟩
abbrev main_v1108 : Ref sig .tc := ⟨.hbm, 1285, rfl⟩
abbrev main_v1109 : Ref sig .tc := ⟨.hbm, 1286, rfl⟩
abbrev main_cst_170 : Ref sig .tc := ⟨.hbm, 1287, rfl⟩
abbrev main_v1110 : Ref sig .tc := ⟨.hbm, 1288, rfl⟩
abbrev main_v1111 : Ref sig .tc := ⟨.hbm, 1289, rfl⟩
abbrev main_v1112 : Ref sig .tc := ⟨.hbm, 1290, rfl⟩
abbrev main_v1113 : Ref sig .tc := ⟨.hbm, 1291, rfl⟩
abbrev main_v1114 : Ref sig .tc := ⟨.hbm, 1292, rfl⟩
abbrev main_v1115 : Ref sig .tc := ⟨.hbm, 1293, rfl⟩
abbrev main_v1116 : Ref sig .tc := ⟨.hbm, 1294, rfl⟩
abbrev main_cst_171 : Ref sig .tc := ⟨.hbm, 1295, rfl⟩
abbrev main_v1117 : Ref sig .tc := ⟨.hbm, 1296, rfl⟩
abbrev main_v1118 : Ref sig .tc := ⟨.hbm, 1297, rfl⟩
abbrev main_cst_172 : Ref sig .tc := ⟨.hbm, 1298, rfl⟩
abbrev main_v1119 : Ref sig .tc := ⟨.hbm, 1299, rfl⟩
abbrev main_v1120 : Ref sig .tc := ⟨.hbm, 1300, rfl⟩
abbrev main_v1121 : Ref sig .tc := ⟨.hbm, 1301, rfl⟩
abbrev main_v1122 : Ref sig .tc := ⟨.hbm, 1302, rfl⟩
abbrev main_v1123 : Ref sig .tc := ⟨.hbm, 1303, rfl⟩
abbrev main_cst_173 : Ref sig .tc := ⟨.hbm, 1304, rfl⟩
abbrev main_v1124 : Ref sig .tc := ⟨.hbm, 1305, rfl⟩
abbrev main_v1125 : Ref sig .tc := ⟨.hbm, 1306, rfl⟩
abbrev main_cst_174 : Ref sig .tc := ⟨.hbm, 1307, rfl⟩
abbrev main_v1126 : Ref sig .tc := ⟨.hbm, 1308, rfl⟩
abbrev main_v1127 : Ref sig .tc := ⟨.hbm, 1309, rfl⟩
abbrev main_v1128 : Ref sig .tc := ⟨.hbm, 1310, rfl⟩
abbrev main_v1129 : Ref sig .tc := ⟨.hbm, 1311, rfl⟩
abbrev main_v1130 : Ref sig .tc := ⟨.hbm, 1312, rfl⟩
abbrev main_v1131 : Ref sig .tc := ⟨.hbm, 1313, rfl⟩
abbrev main_v1132 : Ref sig .tc := ⟨.hbm, 1314, rfl⟩
abbrev main_v1133 : Ref sig .tc := ⟨.hbm, 1315, rfl⟩
abbrev main_v1134 : Ref sig .tc := ⟨.hbm, 1316, rfl⟩

abbrev nD : Nat := 1
abbrev τ : Topo := Topo.v7x

variable {F : FTy → Type} [FloatOps F]
-- ==== Proof.Bias.lean ====
/-
  What the precondition says: every element of both biases is zero.
-/
module

public import proofs.«01_k».proof.Proof.Gen.Pre_zero_biases
public import Idealize.ShloMosaic.PureOps.Ideal
public import Idealize.ShloMosaic.Lib.IdealHost
public import Idealize.ShloMosaic.Lib.ReduceAll

@[expose] public section

noncomputable section

namespace Cert.Tree

open Idealize.ShloMosaic
open Cert.Pre_zero_biases

/-- Of two bits whose conjunction is one, both are one. -/
theorem both_one : ∀ a b : BitVec 1, IntOp.andi a b = 1#1 → a = 1#1 ∧ b = 1#1 := by decide

/-- A bias each of whose elements compares equal to zero is zero everywhere. -/
theorem zero_of_all (b : FVec Ideal S1280 .f32) (j : S_.Idx)
    (h : Host.reduce IntOp.andi (cmpf .oeq b (broadcastInDim S1280 ![] Gen.bcast_S_S1280 (constant (F := Ideal) S_ .f32 0x00000000#32)))
      (constantI S_ 1 1#1) Gen.reducesTo_S1280_S_d0 Gen.h_S_ j = 1#1) (i : S1280.Idx) : b i = (0 : EReal) := by
  haveI : Subsingleton S_.Idx := ⟨fun x y => funext fun a => a.elim0⟩
  have e := Host.reduce_andi_all _ _ _ _ _ h i
  have e' : BitVec.ofBool (decide (b i = Ideal.ofBits .f32 0x00000000#32)) = 1#1 := e
  rw [Ideal.ofBits_zero_f32] at e'
  by_contra hn
  rw [decide_eq_false hn] at e'
  exact absurd e' (by decide)

/-- Under the precondition both biases are zero. -/
theorem biases_zero {h c : FVec Ideal S3072x256 .f32} {w w' : FVec Ideal S512x1280 .f32} {b b' : FVec Ideal S1280 .f32}
    (hp : fn h c w b w' b' = fun _ => 1#1) : (∀ i, b i = (0 : EReal)) ∧ ∀ i, b' i = (0 : EReal) := by
  have e := both_one _ _ (congrFun hp (fun a => a.elim0))
  exact ⟨zero_of_all b _ e.1, zero_of_all b' _ e.2⟩

end Cert.Tree

end
-- ==== Proof.Flat.lean ====
/-
  Arrays read by their row-major position. A tree level pairs neighbouring rows, so an array of rows of 256 becomes an
  array of half as many rows of 512 without any element moving. This module names "the elements of `v`, in row-major
  order, are a stretch of the sequence `G`" and shows how reshaping, taking whole rows and stacking rows act on it.
-/
module

public import Idealize.ShloMosaic.Lib.Pointwise.SelectCore
public import Idealize.ShloMosaic.Lib.MatmulPlain
public import Idealize.ShloMosaic.Lib.StackMember

@[expose] public section

noncomputable section

namespace Cert.Tree

open Idealize.ShloMosaic hiding ix2
open Idealize.ShloMosaic.ValueIdx (ix2)

/-- The elements of `v` in row-major order are the stretch of `G` that begins at position `o`. -/
def At {s : Shape} (v : s.Idx → EReal) (G : ℕ → EReal) (o : ℕ) : Prop :=
  ∀ i : s.Idx, v i = G (o + (s.rowMajor i).val)

/-- An array's own sequence of elements (past its end: 0). -/
def flat {s : Shape} (v : s.Idx → EReal) (n : ℕ) : EReal :=
  if h : n < s.numel then v (s.rowMajor.symm ⟨n, h⟩) else 0

/-- An array is its own sequence, from the beginning. -/
theorem at_flat {s : Shape} (v : s.Idx → EReal) : At v (flat v) 0 := by
  intro i
  have h : 0 + (s.rowMajor i).val < s.numel := by rw [Nat.zero_add]; exact (s.rowMajor i).isLt
  rw [flat, dif_pos h]
  congr 1
  rw [Equiv.eq_symm_apply]
  exact Fin.ext (Nat.zero_add _).symm

/-- An array of rows of length `w` read at row `r`, column `d`. -/
theorem At.at2 {n w : ℕ} {v : (⟨2, ![n, w]⟩ : Shape).Idx → EReal} {G : ℕ → EReal} {o : ℕ} (h : At v G o)
    (r : Fin n) (d : Fin w) : v (ix2 r d) = G (o + (r.val * w + d.val)) := by
  rw [h, Shape.rowMajor_val_two]; rfl

/-- To know an array of rows it is enough to read it at every row and column. -/
theorem At.of2 {n w : ℕ} {v : (⟨2, ![n, w]⟩ : Shape).Idx → EReal} {G : ℕ → EReal} {o : ℕ}
    (h : ∀ i : (⟨2, ![n, w]⟩ : Shape).Idx, v i = G (o + ((i 0).val * w + (i 1).val))) : At v G o := by
  intro i
  rw [h, Shape.rowMajor_val_two]; rfl

/-- Two arrays of one shape that are the same stretch are equal. -/
theorem At.unique {s : Shape} {v v' : s.Idx → EReal} {G : ℕ → EReal} {o : ℕ} (h : At v G o) (h' : At v' G o) : v = v' :=
  funext fun i => (h i).trans (h' i).symm

/-- Reshaping moves nothing. -/
theorem At.reshape {s t : Shape} {v : s.Idx → EReal} {G : ℕ → EReal} {o : ℕ} (h : At v G o) (hc : s.ShapeCasts t) :
    At (shapeCast t v hc) G o := by
  intro i
  show v (Shape.reshapeEquiv hc i) = _
  rw [h, Shape.rowMajor_reshapeEquiv]

/-- Whole rows, from row `a` on, begin `a` row lengths later. -/
theorem At.rows {n m w a : ℕ} {v : (⟨2, ![n, w]⟩ : Shape).Idx → EReal} {G : ℕ → EReal} {o : ℕ} (h : At v G o)
    (hs : (⟨2, ![n, w]⟩ : Shape).Slices ![a, 0] ⟨2, ![m, w]⟩) (o' : ℕ) (ho : o' = o + a * w) :
    At (extractStridedSlice ⟨2, ![m, w]⟩ ![a, 0] v hs) G o' := by
  apply At.of2
  intro i
  subst ho
  unfold extractStridedSlice
  rw [h, Shape.rowMajor_val_two]
  congr 1
  show o + ((a + (i 0).val) * w + (0 + (i 1).val)) = _
  rw [Nat.add_mul, Nat.zero_add]
  omega

/-- Pieces of `m` rows each follow one another in `G` from position `o` on. -/
def AtAll {m w : ℕ} (G : ℕ → EReal) : ℕ → List ((⟨2, ![m, w]⟩ : Shape).Idx → EReal) → Prop
  | _, [] => True
  | o, p :: ps => At p G o ∧ AtAll G (o + m * w) ps

/-- A stack of pieces that follow one another, read at row `c` and column `j 1`. -/
theorem stack_apply {n m w : ℕ} (G : ℕ → EReal) (j : (⟨2, ![n, w]⟩ : Shape).Idx) :
    ∀ (ps : List ((⟨2, ![m, w]⟩ : Shape).Idx → EReal)) (o c : ℕ) (hs) (hc), AtAll G o ps →
      concatenateAt (⟨2, ![n, w]⟩ : Shape) 0 j (ps.map fun p => ⟨(⟨2, ![m, w]⟩ : Shape), p⟩) hs c hc
        = G (o + (c * w + (j 1).val))
  | [], _, _, _, hc, _ => absurd hc (Nat.not_lt_zero _)
  | [p], o, c, hs, hc, hp => by
    show p _ = _
    rw [hp.1, Shape.rowMajor_val_two]
    rfl
  | p :: q :: ps, o, c, hs, hc, hp => by
    show concatenateAt (⟨2, ![n, w]⟩ : Shape) 0 j (⟨_, p⟩ :: ⟨_, q⟩ :: ps.map fun p => ⟨(⟨2, ![m, w]⟩ : Shape), p⟩) hs c hc = _
    rw [concatenateAt]
    split
    · next hlt =>
      show p _ = _
      rw [hp.1, Shape.rowMajor_val_two]
      rfl
    · next hlt =>
      have hlt' : ¬ c < m := hlt
      refine (stack_apply G j (q :: ps) (o + m * w) (c - m) _ _ hp.2).trans ?_
      congr 1
      have : c * w = m * w + (c - m) * w := by rw [← Nat.add_mul]; congr 1; omega
      omega

/-- A stack of pieces that follow one another is one stretch. -/
theorem at_stack {n m w : ℕ} {G : ℕ → EReal} {o : ℕ} (ps : List ((⟨2, ![m, w]⟩ : Shape).Idx → EReal))
    (h : Shape.Concatenates ((ps.map fun p => (⟨(⟨2, ![m, w]⟩ : Shape), p⟩ : (s : Shape) × (s.Idx → EReal))).map (·.1)) ⟨2, ![n, w]⟩ 0)
    (hp : AtAll G o ps) :
    At (concatenate ⟨2, ![n, w]⟩ 0 (ps.map fun p => ⟨(⟨2, ![m, w]⟩ : Shape), p⟩) h) G o := by
  apply At.of2
  intro i
  rw [concatenate_apply]
  exact stack_apply G i ps o _ _ _ hp

end Cert.Tree
-- ==== Proof.Level.lean ====
/-
  One tree level as a function of sequences: what merging the rows `2r` and `2r + 1` gives at row `r`, for every row at
  once. Both programs are shown to compute it; this file holds the function and nothing of either program, but for the
  one identity that makes their two spellings of the sigmoid the same function of the extended reals.
-/
module

public import proofs.«01_k».proof.Proof.Flat

@[expose] public section

noncomputable section

namespace Cert.Tree

open Idealize.ShloMosaic hiding ix2
open Idealize.ShloMosaic.ValueIdx (ix2)

/-- Column `j` of the gate row of pair `r`: the pair's two hidden rows side by side, times the weights. -/
def gate (W H : ℕ → EReal) (r j : ℕ) : EReal :=
  ∑ k : Fin 512, H (r * 512 + k.val) * W (k.val * 1280 + j)

/-- The cell state of the merged rows, at position `n` (row `n / 256`, column `n % 256`). -/
def cellC (W H C : ℕ → EReal) (n : ℕ) : EReal :=
  Ideal.logistic (gate W H (n / 256) (n % 256)) * Ideal.tanh (gate W H (n / 256) (512 + n % 256))
    + Ideal.logistic (gate W H (n / 256) (768 + n % 256)) * C (n / 256 * 512 + n % 256)
    + Ideal.logistic (gate W H (n / 256) (1024 + n % 256)) * C (n / 256 * 512 + (256 + n % 256))

/-- The hidden state of the merged rows, at position `n`. -/
def cellH (W H C : ℕ → EReal) (n : ℕ) : EReal :=
  Ideal.logistic (gate W H (n / 256) (256 + n % 256)) * Ideal.tanh (cellC W H C n)

/-- The hidden and cell states after `k` levels. -/
def states (W H C : ℕ → EReal) : ℕ → (ℕ → EReal) × (ℕ → EReal)
  | 0 => (H, C)
  | k + 1 => (cellH W (states W H C k).1 (states W H C k).2, cellC W (states W H C k).1 (states W H C k).2)

/-- The hidden states `h` and the cell states `c` are the stretches of `S` that begin at position `o`. -/
def StatesAt {s : Shape} (S : (ℕ → EReal) × (ℕ → EReal)) (h c : s.Idx → EReal) (o : ℕ) : Prop := At h S.1 o ∧ At c S.2 o

/-- The pair of rows that the last merge takes: row 2 after ten levels, which is the root of the last 1024 rows, and row 0
    after eleven, which is the root of the first 2048. -/
def lastPair (X : ℕ → ℕ → EReal) (n : ℕ) : EReal := if n < 256 then X 10 (512 + n) else X 11 (n - 256)

/-- The final hidden state: the last pair merged by the second weights. -/
def finalH (W W' H C : ℕ → EReal) : ℕ → EReal :=
  cellH W' (lastPair fun k => (states W H C k).1) (lastPair fun k => (states W H C k).2)

/-- The final cell state. -/
def finalC (W W' H C : ℕ → EReal) : ℕ → EReal :=
  cellC W' (lastPair fun k => (states W H C k).1) (lastPair fun k => (states W H C k).2)

/-- One half, as the extended real its bit pattern denotes. -/
theorem half_eq : (Ideal.ofBits .f32 0x3F000000#32 : EReal) = ((1 / 2 : ℝ) : EReal) := by
  simp [Ideal.ofBits, Ideal.ieee]
  rw [← EReal.coe_mul]
  norm_num

/-- One half of the hyperbolic tangent of one half of `x`, plus one half, is the logistic function of `x`; at the
    infinities too. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add, ← EReal.coe_zero]
    norm_num
  | top =>
    rw [EReal.coe_mul_top_of_pos (by norm_num), Ideal.tanh_top, Ideal.logistic_top]
    rw [mul_one, ← EReal.coe_add, ← EReal.coe_one]
    norm_num
  | coe r =>
    rw [← EReal.coe_mul, Ideal.tanh_coe, ← EReal.coe_mul, ← EReal.coe_add, Ideal.logistic_coe]
    congr 1
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have hp := Real.exp_pos (1 / 2 * r)
    have hq := Real.exp_pos (-(1 / 2 * r))
    rw [Real.tanh_eq_sinh_div_cosh, Real.sinh_eq, Real.cosh_eq, h1]
    generalize Real.exp (1 / 2 * r) = a at *
    generalize Real.exp (-(1 / 2 * r)) = b at *
    have hb : 1 + b * b ≠ 0 := by positivity
    have hab : a + b ≠ 0 := by positivity
    field_simp
    linear_combination (2 * b) * h2

end Cert.Tree
-- ==== Proof.KernelCell.lean ====
/-
  What the kernel computes for one block of `m` pairs of rows: two matmuls with the two halves of the weights, the sigmoids
  through the hyperbolic tangent, the gates cut out by columns. Stated for every `m`, because every block of every level is
  this computation.
-/
module

public import proofs.«01_k».proof.Proof.Level

@[expose] public section

noncomputable section

namespace Cert.Tree

open Idealize.ShloMosaic hiding ix2
open Idealize.ShloMosaic.ValueIdx (ix2)

/-- Columns from `a` on can be cut out of rows that are long enough. -/
theorem slices_cols {m w b : ℕ} (a : ℕ) (h : a + b ≤ w) : (⟨2, ![m, w]⟩ : Shape).Slices ![0, a] ⟨2, ![m, b]⟩ :=
  ⟨rfl, fun i => match i with
    | ⟨0, _⟩ => by show 0 + m ≤ m; omega
    | ⟨1, _⟩ => h⟩

/-- Columns from `a` on, read at row `r` and column `d`. -/
theorem cols_apply {α : Type} {m w b : ℕ} (a : ℕ) (v : (⟨2, ![m, w]⟩ : Shape).Idx → α)
    (hs : (⟨2, ![m, w]⟩ : Shape).Slices ![0, a] ⟨2, ![m, b]⟩) (r : Fin m) (d : Fin b) (hd : a + d.val < w) :
    extractStridedSlice ⟨2, ![m, b]⟩ ![0, a] v hs (ix2 r d) = v (ix2 r ⟨a + d.val, hd⟩) := by
  unfold extractStridedSlice
  congr 1
  funext x
  match x with
  | ⟨0, _⟩ => exact Fin.ext (Nat.zero_add _)
  | ⟨1, _⟩ => rfl

/-- The kernel's sigmoid. -/
def kerSig {s : Shape} (z : FVec Ideal s .f32) : FVec Ideal s .f32 :=
  addf (mulf (broadcast s (Scalar.ofBits (F := Ideal) .f32 0x3F000000#32))
      (tanh (mulf (broadcast s (Scalar.ofBits (F := Ideal) .f32 0x3F000000#32)) z)))
    (broadcast s (Scalar.ofBits (F := Ideal) .f32 0x3F000000#32))

/-- The kernel's sigmoid is the logistic function. -/
theorem kerSig_apply {s : Shape} (z : FVec Ideal s .f32) (i : s.Idx) : kerSig z i = Ideal.logistic (z i) := by
  rw [← half_tanh, ← half_eq]
  rfl

section

variable {m : ℕ}

/-- The gates of the first weight block. -/
def gatesA (x : FVec Ideal ⟨2, ![m, 512]⟩ .bf16) (wa : FVec Ideal ⟨2, ![512, 768]⟩ .bf16) : FVec Ideal ⟨2, ![m, 768]⟩ .f32 :=
  matmul (DotDims.plain m 512 768) none x wa (constant _ .f32 0x00000000#32)

/-- The gates of the second weight block. -/
def gatesB (x : FVec Ideal ⟨2, ![m, 512]⟩ .bf16) (wb : FVec Ideal ⟨2, ![512, 512]⟩ .bf16) : FVec Ideal ⟨2, ![m, 512]⟩ .f32 :=
  matmul (DotDims.plain m 512 512) none x wb (constant _ .f32 0x00000000#32)

/-- 256 columns of a row of gates or of cell states. -/
def cut {w : ℕ} (a : ℕ) (h : a + 256 ≤ w) (g : FVec Ideal ⟨2, ![m, w]⟩ .f32) : FVec Ideal ⟨2, ![m, 256]⟩ .f32 :=
  extractStridedSlice ⟨2, ![m, 256]⟩ ![0, a] g (slices_cols a h)

/-- The block's cell states. -/
def blockC (x : FVec Ideal ⟨2, ![m, 512]⟩ .bf16) (cc : FVec Ideal ⟨2, ![m, 512]⟩ .f32)
    (wa : FVec Ideal ⟨2, ![512, 768]⟩ .bf16) (wb : FVec Ideal ⟨2, ![512, 512]⟩ .bf16) : FVec Ideal ⟨2, ![m, 256]⟩ .f32 :=
  addf (addf (mulf (kerSig (cut 0 (by decide) (gatesA x wa))) (tanh (cut 512 (by decide) (gatesA x wa))))
      (mulf (kerSig (cut 0 (by decide) (gatesB x wb))) (cut 0 (by decide) cc)))
    (mulf (kerSig (cut 256 (by decide) (gatesB x wb))) (cut 256 (by decide) cc))

/-- The block's hidden states. -/
def blockH (x : FVec Ideal ⟨2, ![m, 512]⟩ .bf16) (cc : FVec Ideal ⟨2, ![m, 512]⟩ .f32)
    (wa : FVec Ideal ⟨2, ![512, 768]⟩ .bf16) (wb : FVec Ideal ⟨2, ![512, 512]⟩ .bf16) : FVec Ideal ⟨2, ![m, 256]⟩ .f32 :=
  mulf (kerSig (cut 256 (by decide) (gatesA x wa))) (tanh (blockC x cc wa wb))

/-- The two weight blocks are the first 768 and the last 512 of the 1280 columns of `W`. -/
structure Halves (W : ℕ → EReal) (wa : FVec Ideal ⟨2, ![512, 768]⟩ .bf16) (wb : FVec Ideal ⟨2, ![512, 512]⟩ .bf16) : Prop where
  fst : ∀ (k : Fin 512) (j : Fin 768), wa (ix2 k j) = W (k.val * 1280 + j.val)
  snd : ∀ (k j : Fin 512), wb (ix2 k j) = W (k.val * 1280 + (768 + j.val))

variable {W H C : ℕ → EReal} {x : FVec Ideal ⟨2, ![m, 512]⟩ .bf16} {cc : FVec Ideal ⟨2, ![m, 512]⟩ .f32}
  {wa : FVec Ideal ⟨2, ![512, 768]⟩ .bf16} {wb : FVec Ideal ⟨2, ![512, 512]⟩ .bf16} {t : ℕ}

/-- A gate of the first weight block, cut out at column `a`. -/
theorem cutA (hx : At x H (t * 512)) (hw : Halves W wa wb) (a : ℕ) (ha : a + 256 ≤ 768) (r : Fin m) (d : Fin 256) :
    cut a ha (gatesA x wa) (ix2 r d) = gate W H (t + r.val) (a + d.val) := by
  unfold cut gatesA matmul
  rw [cols_apply a _ _ r d (by omega), Ideal.matmul_plain_apply]
  have h0 : constant (F := Ideal) ⟨2, ![m, 768]⟩ .f32 0x00000000#32 (ix2 r ⟨a + d.val, by omega⟩) = (0 : EReal) :=
    Ideal.ofBits_zero_f32
  rw [h0, zero_add]
  refine Finset.sum_congr rfl fun k _ => ?_
  rw [hx.at2, hw.fst, show t * 512 + (r.val * 512 + k.val) = (t + r.val) * 512 + k.val by ring]

/-- A gate of the second weight block, cut out at column `a`. -/
theorem cutB (hx : At x H (t * 512)) (hw : Halves W wa wb) (a : ℕ) (ha : a + 256 ≤ 512) (r : Fin m) (d : Fin 256) :
    cut a ha (gatesB x wb) (ix2 r d) = gate W H (t + r.val) (768 + a + d.val) := by
  unfold cut gatesB matmul
  rw [cols_apply a _ _ r d (by omega), Ideal.matmul_plain_apply]
  have h0 : constant (F := Ideal) ⟨2, ![m, 512]⟩ .f32 0x00000000#32 (ix2 r ⟨a + d.val, by omega⟩) = (0 : EReal) :=
    Ideal.ofBits_zero_f32
  rw [h0, zero_add]
  refine Finset.sum_congr rfl fun k _ => ?_
  rw [hx.at2, hw.snd, show t * 512 + (r.val * 512 + k.val) = (t + r.val) * 512 + k.val by ring, Nat.add_assoc 768]

/-- Half of a pair of cell states. -/
theorem cutC (hc : At cc C (t * 512)) (a : ℕ) (ha : a + 256 ≤ 512) (r : Fin m) (d : Fin 256) :
    cut a ha cc (ix2 r d) = C ((t + r.val) * 512 + (a + d.val)) := by
  unfold cut
  rw [cols_apply a _ _ r d (by omega), hc.at2]
  congr 1
  ring

/-- The row and the column of a position. -/
theorem position (t : ℕ) (r : Fin m) (d : Fin 256) :
    (t * 256 + (r.val * 256 + d.val)) / 256 = t + r.val ∧ (t * 256 + (r.val * 256 + d.val)) % 256 = d.val := by
  omega

/-- The block that begins at pair `t` computes the level's cell states from row `t` on. -/
theorem at_blockC (hx : At x H (t * 512)) (hc : At cc C (t * 512)) (hw : Halves W wa wb) :
    At (blockC x cc wa wb) (cellC W H C) (t * 256) := by
  apply At.of2
  intro i
  obtain ⟨r, d, rfl⟩ : ∃ (r : Fin m) (d : Fin 256), i = ix2 r d := ⟨i 0, i 1, by ext a; fin_cases a <;> rfl⟩
  show kerSig _ (ix2 r d) * Ideal.tanh (cut _ _ _ (ix2 r d)) + kerSig _ (ix2 r d) * cut _ _ _ (ix2 r d)
    + kerSig _ (ix2 r d) * cut _ _ _ (ix2 r d) = cellC W H C (t * 256 + (r.val * 256 + d.val))
  simp only [kerSig_apply, cutA hx hw, cutB hx hw, cutC hc, cellC, (position t r d).1, (position t r d).2]
  simp only [Nat.zero_add, Nat.add_zero]

/-- The block that begins at pair `t` computes the level's hidden states from row `t` on. -/
theorem at_blockH (hx : At x H (t * 512)) (hc : At cc C (t * 512)) (hw : Halves W wa wb) :
    At (blockH x cc wa wb) (cellH W H C) (t * 256) := by
  apply At.of2
  intro i
  obtain ⟨r, d, rfl⟩ : ∃ (r : Fin m) (d : Fin 256), i = ix2 r d := ⟨i 0, i 1, by ext a; fin_cases a <;> rfl⟩
  show kerSig _ (ix2 r d) * Ideal.tanh (blockC x cc wa wb (ix2 r d)) = cellH W H C (t * 256 + (r.val * 256 + d.val))
  rw [(at_blockC hx hc hw).at2]
  simp only [kerSig_apply, cutA hx hw, cellH, (position t r d).1, (position t r d).2]

end

end Cert.Tree
-- ==== Proof.KernelLoads.lean ====
/-
  What the kernel's loads read. Its transfers copy blocks of the arguments into scratch arrays, each to the place it has in
  the argument, and a load takes one such block again: so every loaded array is a block of an argument.
-/
module

public import proofs.«01_k».proof.Proof.KernelCell
public import proofs.«01_k».proof.Proof.Gen.KernelIdeal.Value
public import Idealize.ShloMosaic.Lib.Pipeline.ReadBack
public import Idealize.ShloMosaic.Lib.Pipeline.ValueKit.Acc

set_option maxRecDepth 16384

@[expose] public section

noncomputable section

namespace Cert.Tree

open Idealize.ShloMosaic hiding ix2 ix3
open Idealize.ShloMosaic.ValueIdx (ix2 ix3)
open Idealize.ShloMosaic.TcCoe
open Cert.KernelIdeal Cert.KernelIdeal.Gen

/-- A block of whole rows, from row `o` on, is the stretch of the array that begins there. -/
theorem at_rows {n m w : ℕ} {f : (⟨2, ![n, w]⟩ : Shape).Idx → EReal} {v : (⟨2, ![m, w]⟩ : Shape).Idx → EReal} (o : ℕ) (ho : o + m ≤ n)
    (hv : ∀ (r : Fin m) (d : Fin w), v (ix2 r d) = f (ix2 ⟨o + r.val, by omega⟩ d)) : At v (flat f) (o * w) := by
  apply At.of2
  intro i
  obtain ⟨r, d, rfl⟩ : ∃ (r : Fin m) (d : Fin w), i = ix2 r d := ⟨i 0, i 1, by ext a; fin_cases a <;> rfl⟩
  rw [hv, (at_flat f).at2, Nat.zero_add]
  refine congrArg (flat f) ?_
  show (o + r.val) * w + d.val = o * w + (r.val * w + d.val)
  ring

variable {c : Dev nD}

/-- A place inside a block that begins at row `a`, column `b`. -/
theorem block {n w p q a b : ℕ} (h) (r : Fin p) (d : Fin q) (y : (⟨2, ![n, w]⟩ : Shape).Idx) (h0 : (y 0).val = a + r.val) (h1 : (y 1).val = b + d.val) :
    (Rect.unit (s := ⟨2, ![n, w]⟩) ![a, b] ![p, q] h).emb (ix2 r d) = y := by
  funext e
  match e with
  | ⟨0, _⟩ => exact Fin.ext (Eq.trans (show _ = a + 1 * r.val from rfl) (by rw [one_mul]; exact h0.symm))
  | ⟨1, _⟩ => exact Fin.ext (Eq.trans (show _ = b + 1 * d.val from rfl) (by rw [one_mul]; exact h1.symm))

variable (a6 a7 : Memref sig .tc .vmem S3072x256 .f32) (a8 a9 : Memref sig .tc .vmem S512x1280 .f32)
  (f0 : HbBuf0 (F := Ideal) c hbM0_0) (f1 : HbBuf0 (F := Ideal) c hbM0_1) (f2 : HbBuf0 (F := Ideal) c hbM0_2) (f3 : HbBuf0 (F := Ideal) c hbM0_3)

/-- The first quarter of the hidden states. -/
theorem load_h0 : At (s := S768x256) (kernelRun0_A.sl.v52 c a6 f0) (flat (s := S3072x256) f0) (0 * 256) := by
  refine at_rows 0 (by decide) fun r d => ?_
  unfold kernelRun0_A.sl.v52
  simp (disch := decide) only [View.readCov_skip, View.readCov_cons_toLoadRect]
  exact congrArg f0 (block _ r d _ rfl (Nat.zero_add _).symm)

/-- The first quarter of the cell states. -/
theorem load_c0 : At (s := S768x256) (kernelRun0_A.sl.v55 c a7 f1) (flat (s := S3072x256) f1) (0 * 256) := by
  refine at_rows 0 (by decide) fun r d => ?_
  unfold kernelRun0_A.sl.v55
  simp (disch := decide) only [View.readCov_skip, View.readCov_cons_toLoadRect]
  exact congrArg f1 (block _ r d _ rfl (Nat.zero_add _).symm)

/-- The second quarter of the hidden states. -/
theorem load_h1 : At (s := S768x256) (kernelRun0_A.sl.v219 c a6 f0) (flat (s := S3072x256) f0) (768 * 256) := by
  refine at_rows 768 (by decide) fun r d => ?_
  unfold kernelRun0_A.sl.v219
  simp (disch := decide) only [View.readCov_skip, View.readCov_cons_toLoadRect]
  exact congrArg f0 (block _ r d _ rfl (Nat.zero_add _).symm)

/-- The second quarter of the cell states. -/
theorem load_c1 : At (s := S768x256) (kernelRun0_A.sl.v222 c a7 f1) (flat (s := S3072x256) f1) (768 * 256) := by
  refine at_rows 768 (by decide) fun r d => ?_
  unfold kernelRun0_A.sl.v222
  simp (disch := decide) only [View.readCov_skip, View.readCov_cons_toLoadRect]
  exact congrArg f1 (block _ r d _ rfl (Nat.zero_add _).symm)

/-- The third quarter of the hidden states. -/
theorem load_h2 : At (s := S768x256) (kernelRun0_A.sl.v378 c a6 f0) (flat (s := S3072x256) f0) (1536 * 256) := by
  refine at_rows 1536 (by decide) fun r d => ?_
  unfold kernelRun0_A.sl.v378
  simp (disch := decide) only [View.readCov_skip, View.readCov_cons_toLoadRect]
  exact congrArg f0 (block _ r d _ rfl (Nat.zero_add _).symm)

/-- The third quarter of the cell states. -/
theorem load_c2 : At (s := S768x256) (kernelRun0_A.sl.v381 c a7 f1) (flat (s := S3072x256) f1) (1536 * 256) := by
  refine at_rows 1536 (by decide) fun r d => ?_
  unfold kernelRun0_A.sl.v381
  simp (disch := decide) only [View.readCov_skip, View.readCov_cons_toLoadRect]
  exact congrArg f1 (block _ r d _ rfl (Nat.zero_add _).symm)

/-- The fourth quarter of the hidden states. -/
theorem load_h3 : At (s := S768x256) (kernelRun0_A.sl.v537 c a6 f0) (flat (s := S3072x256) f0) (2304 * 256) := by
  refine at_rows 2304 (by decide) fun r d => ?_
  unfold kernelRun0_A.sl.v537
  simp (disch := decide) only [View.readCov_skip, View.readCov_cons_toLoadRect]
  exact congrArg f0 (block _ r d _ rfl (Nat.zero_add _).symm)

/-- The fourth quarter of the cell states. -/
theorem load_c3 : At (s := S768x256) (kernelRun0_A.sl.v540 c a7 f1) (flat (s := S3072x256) f1) (2304 * 256) := by
  refine at_rows 2304 (by decide) fun r d => ?_
  unfold kernelRun0_A.sl.v540
  simp (disch := decide) only [View.readCov_skip, View.readCov_cons_toLoadRect]
  exact congrArg f1 (block _ r d _ rfl (Nat.zero_add _).symm)

/-- The two parts of the merge weights: the columns of the gates `i`, `o`, `u`, and those of the two forget gates. -/
theorem merge_halves : Halves (flat (s := S512x1280) f2) (kernelRun0_A.sl.r c a8 f2) (kernelRun0_A.sl.r_1 c a8 f2) where
  fst k j := by
    have e : kernelRun0_A.sl.v28 c a8 f2 (ix2 k j) = f2 (ix2 k ⟨j.val, by omega⟩) := by
      unfold kernelRun0_A.sl.v28
      simp (disch := decide) only [View.readCov_skip, View.readCov_cons_toLoadRect]
      exact congrArg f2 (block _ k j _ (Nat.zero_add _).symm (Nat.zero_add _).symm)
    exact e.trans (((at_flat (s := S512x1280) f2).at2 _ _).trans (congrArg _ (Nat.zero_add _)))
  snd k j := by
    have e : kernelRun0_A.sl.v34 c a8 f2 (ix2 k j) = f2 (ix2 k ⟨768 + j.val, by omega⟩) := by
      unfold kernelRun0_A.sl.v34
      simp (disch := decide) only [View.readCov_skip, View.readCov_cons_toLoadRect]
      exact congrArg f2 (block _ k j _ (Nat.zero_add _).symm rfl)
    exact e.trans (((at_flat (s := S512x1280) f2).at2 _ _).trans (congrArg _ (Nat.zero_add _)))

/-- The two parts of the weights of the last merge, cut out of the whole array. -/
theorem sum_halves : Halves (flat (s := S512x1280) f3)
    (extractStridedSlice S512x768 ![0, 0] (k0_pay267 (kernelRun0_A.sl.v1515 c a9 f3)) slices_S512x1280_o0_0_S512x768)
    (extractStridedSlice S512x512 ![0, 768] (k0_pay267 (kernelRun0_A.sl.v1515 c a9 f3)) slices_S512x1280_o0_768_S512x512) := by
  have e : ∀ (k : Fin 512) (j : Fin 1280), kernelRun0_A.sl.v1515 c a9 f3 (ix2 k j) = flat (s := S512x1280) f3 (k.val * 1280 + j.val) := by
    intro k j
    have h : kernelRun0_A.sl.v1515 c a9 f3 (ix2 k j) = f3 (ix2 k j) := by
      unfold kernelRun0_A.sl.v1515
      refine (congrFun (View.readCov_cons_unit_lit' (S := S512x1280) a9.view (off := fun _ => 0) (off' := ![0, 0]) _ _
        (kernelRun0_A.sl.dma6 c f3) [] (by decide) (by decide)) (ix2 k j)).trans ?_
      rfl
    exact h.trans (((at_flat (s := S512x1280) f3).at2 k j).trans (congrArg _ (Nat.zero_add _)))
  constructor
  · intro k j
    refine (cols_apply (w := 1280) 0 _ _ k j (by omega)).trans ((e k _).trans ?_)
    exact congrArg (fun z => flat (s := S512x1280) f3 (k.val * 1280 + z)) (Nat.zero_add _)
  · intro k j
    exact (cols_apply (w := 1280) 768 _ _ k j (by omega)).trans (e k _)

end Cert.Tree
-- ==== Proof.KernelTiles.lean ====
/-
  One level of the tree as the kernel computes it: either all its pairs at once, or tile after tile of the pairs, the tiles'
  results stacked again. Either way the level's states come out as one stretch.
-/
module

public import proofs.«01_k».proof.Proof.KernelCell

@[expose] public section

noncomputable section

namespace Cert.Tree

open Idealize.ShloMosaic hiding ix2 ix3

/-- The states of the level above. -/
def next (W : ℕ → EReal) (S : (ℕ → EReal) × (ℕ → EReal)) : (ℕ → EReal) × (ℕ → EReal) := (cellH W S.1 S.2, cellC W S.1 S.2)

/-- Whole rows can be cut out of an array that has enough of them. -/
theorem slices_rows {n m w : ℕ} (a : ℕ) (h : a + m ≤ n) : (⟨2, ![n, w]⟩ : Shape).Slices ![a, 0] ⟨2, ![m, w]⟩ :=
  ⟨rfl, fun i => match i with
    | ⟨0, _⟩ => h
    | ⟨1, _⟩ => by show 0 + w ≤ w; omega⟩

/-- The two result arrays of `m` pairs. -/
abbrev Rows (m : ℕ) (e : FTy) : Type := FVec Ideal ⟨2, ![m, 256]⟩ e

section

variable {n m : ℕ} (x : FVec Ideal ⟨2, ![n, 512]⟩ .bf16) (cc : FVec Ideal ⟨2, ![n, 512]⟩ .f32)
  (wa : FVec Ideal ⟨2, ![512, 768]⟩ .bf16) (wb : FVec Ideal ⟨2, ![512, 512]⟩ .bf16)

/-- The hidden states of the `m` pairs from `a` on. -/
def tileH (a : ℕ) (h : a + m ≤ n) : Rows m .bf16 :=
  truncf .bf16 (blockH (extractStridedSlice ⟨2, ![m, 512]⟩ ![a, 0] x (slices_rows a h))
    (extractStridedSlice ⟨2, ![m, 512]⟩ ![a, 0] cc (slices_rows a h)) wa wb) (by decide)

/-- The cell states of the `m` pairs from `a` on. -/
def tileC (a : ℕ) (h : a + m ≤ n) : Rows m .f32 :=
  blockC (extractStridedSlice ⟨2, ![m, 512]⟩ ![a, 0] x (slices_rows a h))
    (extractStridedSlice ⟨2, ![m, 512]⟩ ![a, 0] cc (slices_rows a h)) wa wb

end

variable {n m : ℕ} {x : FVec Ideal ⟨2, ![n, 512]⟩ .bf16} {cc : FVec Ideal ⟨2, ![n, 512]⟩ .f32}
  {wa : FVec Ideal ⟨2, ![512, 768]⟩ .bf16} {wb : FVec Ideal ⟨2, ![512, 512]⟩ .bf16} {W : ℕ → EReal}
  {S : (ℕ → EReal) × (ℕ → EReal)} {t : ℕ}

/-- A tile's results are the next level's states from row `t + a` on. -/
theorem at_tile (hX : StatesAt S x cc (t * 512)) (hw : Halves W wa wb) (a o : ℕ) (h : a + m ≤ n) (ho : o = t * 256 + a * 256) :
    StatesAt (next W S) (tileH x cc wa wb a h) (tileC x cc wa wb a h) o := by
  have e : (t + a) * 512 = t * 512 + a * 512 := by ring
  have e' : o = (t + a) * 256 := by rw [ho]; ring
  have hx := hX.1.rows (slices_rows a h) ((t + a) * 512) e
  have hc := hX.2.rows (slices_rows a h) ((t + a) * 512) e
  rw [e']
  exact ⟨at_blockH hx hc hw, at_blockC hx hc hw⟩

/-- A level computed all at once: its hidden and cell states. -/
theorem whole {h' : Rows n .bf16} {c' : Rows n .f32} (hX : StatesAt S x cc (t * 512)) (hw : Halves W wa wb)
    (eh : h' = truncf .bf16 (blockH x cc wa wb) (by decide)) (ec : c' = blockC x cc wa wb) :
    StatesAt (next W S) h' c' (t * 256) := by
  subst eh ec
  exact ⟨at_blockH hX.1 hX.2 hw, at_blockC hX.1 hX.2 hw⟩

/-- A level computed in three tiles. -/
theorem tiles3 {h' : Rows n .bf16} {c' : Rows n .f32} (hX : StatesAt S x cc (t * 512)) (hw : Halves W wa wb) (hm : 3 * m = n)
    (hc : Shape.Concatenates [(⟨2, ![m, 256]⟩ : Shape), ⟨2, ![m, 256]⟩, ⟨2, ![m, 256]⟩] ⟨2, ![n, 256]⟩ 0)
    (eh : h' = concatenate ⟨2, ![n, 256]⟩ 0 [⟨⟨2, ![m, 256]⟩, tileH x cc wa wb 0 (by omega)⟩,
      ⟨⟨2, ![m, 256]⟩, tileH x cc wa wb m (by omega)⟩, ⟨⟨2, ![m, 256]⟩, tileH x cc wa wb (2 * m) (by omega)⟩] hc)
    (ec : c' = concatenate ⟨2, ![n, 256]⟩ 0 [⟨⟨2, ![m, 256]⟩, tileC x cc wa wb 0 (by omega)⟩,
      ⟨⟨2, ![m, 256]⟩, tileC x cc wa wb m (by omega)⟩, ⟨⟨2, ![m, 256]⟩, tileC x cc wa wb (2 * m) (by omega)⟩] hc) :
    StatesAt (next W S) h' c' (t * 256) := by
  subst eh ec
  have h0 := at_tile hX hw 0 (t * 256) (show 0 + m ≤ n by omega) (by ring)
  have h1 := at_tile hX hw m (t * 256 + m * 256) (show m + m ≤ n by omega) rfl
  have h2 := at_tile hX hw (2 * m) (t * 256 + m * 256 + m * 256) (show 2 * m + m ≤ n by omega) (by ring)
  exact ⟨at_stack [_, _, _] hc ⟨h0.1, h1.1, h2.1, trivial⟩, at_stack [_, _, _] hc ⟨h0.2, h1.2, h2.2, trivial⟩⟩

/-- A level computed in six tiles. -/
theorem tiles6 {h' : Rows n .bf16} {c' : Rows n .f32} (hX : StatesAt S x cc (t * 512)) (hw : Halves W wa wb) (hm : 6 * m = n)
    (hc : Shape.Concatenates [(⟨2, ![m, 256]⟩ : Shape), ⟨2, ![m, 256]⟩, ⟨2, ![m, 256]⟩, ⟨2, ![m, 256]⟩, ⟨2, ![m, 256]⟩, ⟨2, ![m, 256]⟩]
      ⟨2, ![n, 256]⟩ 0)
    (eh : h' = concatenate ⟨2, ![n, 256]⟩ 0 [⟨⟨2, ![m, 256]⟩, tileH x cc wa wb 0 (by omega)⟩,
      ⟨⟨2, ![m, 256]⟩, tileH x cc wa wb m (by omega)⟩, ⟨⟨2, ![m, 256]⟩, tileH x cc wa wb (2 * m) (by omega)⟩,
      ⟨⟨2, ![m, 256]⟩, tileH x cc wa wb (3 * m) (by omega)⟩, ⟨⟨2, ![m, 256]⟩, tileH x cc wa wb (4 * m) (by omega)⟩,
      ⟨⟨2, ![m, 256]⟩, tileH x cc wa wb (5 * m) (by omega)⟩] hc)
    (ec : c' = concatenate ⟨2, ![n, 256]⟩ 0 [⟨⟨2, ![m, 256]⟩, tileC x cc wa wb 0 (by omega)⟩,
      ⟨⟨2, ![m, 256]⟩, tileC x cc wa wb m (by omega)⟩, ⟨⟨2, ![m, 256]⟩, tileC x cc wa wb (2 * m) (by omega)⟩,
      ⟨⟨2, ![m, 256]⟩, tileC x cc wa wb (3 * m) (by omega)⟩, ⟨⟨2, ![m, 256]⟩, tileC x cc wa wb (4 * m) (by omega)⟩,
      ⟨⟨2, ![m, 256]⟩, tileC x cc wa wb (5 * m) (by omega)⟩] hc) :
    StatesAt (next W S) h' c' (t * 256) := by
  subst eh ec
  have h0 := at_tile hX hw 0 (t * 256) (show 0 + m ≤ n by omega) (by ring)
  have h1 := at_tile hX hw m (t * 256 + m * 256) (show m + m ≤ n by omega) rfl
  have h2 := at_tile hX hw (2 * m) (t * 256 + m * 256 + m * 256) (show 2 * m + m ≤ n by omega) (by ring)
  have h3 := at_tile hX hw (3 * m) (t * 256 + m * 256 + m * 256 + m * 256) (show 3 * m + m ≤ n by omega) (by ring)
  have h4 := at_tile hX hw (4 * m) (t * 256 + m * 256 + m * 256 + m * 256 + m * 256) (show 4 * m + m ≤ n by omega) (by ring)
  have h5 := at_tile hX hw (5 * m) (t * 256 + m * 256 + m * 256 + m * 256 + m * 256 + m * 256) (show 5 * m + m ≤ n by omega) (by ring)
  exact ⟨at_stack [_, _, _, _, _, _] hc ⟨h0.1, h1.1, h2.1, h3.1, h4.1, h5.1, trivial⟩,
    at_stack [_, _, _, _, _, _] hc ⟨h0.2, h1.2, h2.2, h3.2, h4.2, h5.2, trivial⟩⟩

/-- A level's states, reshaped to the pairs of the next level. -/
theorem StatesAt.pairs {s s' : Shape} {h c : s.Idx → EReal} {h' c' : s'.Idx → EReal} {o : ℕ} (hS : StatesAt S h c o)
    (hc : s.ShapeCasts s') (eh : h' = shapeCast s' h hc) (ec : c' = shapeCast s' c hc) : StatesAt S h' c' o := by
  subst eh ec
  exact ⟨hS.1.reshape hc, hS.2.reshape hc⟩

end Cert.Tree

end
-- ==== Proof.Pairs.lean ====
/-
  Pairs of rows taken apart and put together: the two halves of every pair, and two halves set side by side.
-/
module

public import proofs.«01_k».proof.Proof.Level

@[expose] public section

noncomputable section

namespace Cert.Tree

open Idealize.ShloMosaic hiding ix2 ix3
open Idealize.ShloMosaic.ValueIdx (ix2 ix3)

variable {m : ℕ}

/-- Row `r` of `v` is half `s` of pair `t + r` of the sequence. -/
def HalfAt (v : (⟨2, ![m, 256]⟩ : Shape).Idx → EReal) (G : ℕ → EReal) (t s : ℕ) : Prop :=
  ∀ (r : Fin m) (d : Fin 256), v (ix2 r d) = G ((t + r.val) * 512 + (s * 256 + d.val))

/-- Half `s` of every pair, cut out of the array of pairs. -/
theorem half_of_pairs {v : (⟨3, ![m, 2, 256]⟩ : Shape).Idx → EReal} {G : ℕ → EReal} {t : ℕ} (h : At v G (t * 512)) (s : ℕ)
    (hs : (⟨3, ![m, 2, 256]⟩ : Shape).Slices ![0, s, 0] ⟨3, ![m, 1, 256]⟩)
    (hc : (⟨3, ![m, 1, 256]⟩ : Shape).ShapeCasts ⟨2, ![m, 256]⟩) :
    HalfAt (shapeCast ⟨2, ![m, 256]⟩ (extractStridedSlice ⟨3, ![m, 1, 256]⟩ ![0, s, 0] v hs) hc) G t s := by
  intro r d
  have hk : ((⟨3, ![m, 1, 256]⟩ : Shape).rowMajor (ix3 r (0 : Fin 1) d)).val
      = ((⟨2, ![m, 256]⟩ : Shape).rowMajor (ix2 r d)).val := by
    rw [Shape.rowMajor_val_two, Shape.rowMajor_val_three]
    show (r.val * 1 + 0) * 256 + d.val = r.val * 256 + d.val
    ring
  refine (congrArg (extractStridedSlice ⟨3, ![m, 1, 256]⟩ ![0, s, 0] v hs)
    (Shape.reshapeEquiv_eq_of_rowMajor hc hk)).trans ?_
  refine (h _).trans ?_
  rw [Shape.rowMajor_val_three]
  refine congrArg G ?_
  show t * 512 + (((0 + r.val) * 2 + (s + 0)) * 256 + (0 + d.val)) = _
  ring

/-- Two halves side by side, read at row `r` and column `k`: the pair of the sequence. -/
theorem beside_apply {a b : (⟨2, ![m, 256]⟩ : Shape).Idx → EReal} {G : ℕ → EReal} {t : ℕ} (ha : HalfAt a G t 0)
    (hb : HalfAt b G t 1)
    (hc : Shape.Concatenates [(⟨2, ![m, 256]⟩ : Shape), ⟨2, ![m, 256]⟩] ⟨2, ![m, 512]⟩ 1) (r : Fin m) (k : Fin 512) :
    concatenate ⟨2, ![m, 512]⟩ 1 [⟨(⟨2, ![m, 256]⟩ : Shape), a⟩, ⟨(⟨2, ![m, 256]⟩ : Shape), b⟩] hc (ix2 r k)
      = G ((t + r.val) * 512 + k.val) := by
  by_cases hk : k.val < 256
  · refine (concatenate_pair_apply_left (t := ⟨2, ![m, 512]⟩) (s₁ := ⟨2, ![m, 256]⟩) (s₂ := ⟨2, ![m, 256]⟩) (1 : Fin 2) a b hc
      (ix2 r k) rfl (ix2 r ⟨k.val, hk⟩) (fun x => match x with | ⟨0, _⟩ => rfl | ⟨1, _⟩ => rfl)).trans ?_
    rw [ha r ⟨k.val, hk⟩, Nat.zero_mul, Nat.zero_add]
  · refine (concatenate_pair_apply_right (t := ⟨2, ![m, 512]⟩) (s₁ := ⟨2, ![m, 256]⟩) (s₂ := ⟨2, ![m, 256]⟩) (1 : Fin 2) a b hc
      (ix2 r k) rfl rfl (ix2 r ⟨k.val - 256, by omega⟩)
      (fun x hx => match x, hx with | ⟨0, _⟩, _ => rfl | ⟨1, _⟩, hx => absurd rfl hx)
      (by show k.val - 256 + 256 = k.val; omega)).trans ?_
    rw [hb r ⟨k.val - 256, by omega⟩]
    congr 2
    show 1 * 256 + (k.val - 256) = k.val
    omega

/-- Two halves side by side are pairs of the sequence. -/
theorem at_beside {a b : (⟨2, ![m, 256]⟩ : Shape).Idx → EReal} {G : ℕ → EReal} {t : ℕ} (ha : HalfAt a G t 0) (hb : HalfAt b G t 1)
    (hc : Shape.Concatenates [(⟨2, ![m, 256]⟩ : Shape), ⟨2, ![m, 256]⟩] ⟨2, ![m, 512]⟩ 1) :
    At (concatenate ⟨2, ![m, 512]⟩ 1 [⟨(⟨2, ![m, 256]⟩ : Shape), a⟩, ⟨(⟨2, ![m, 256]⟩ : Shape), b⟩] hc) G (t * 512) := by
  apply At.of2
  intro i
  obtain ⟨r, k, rfl⟩ : ∃ (r : Fin m) (k : Fin 512), i = ix2 r k := ⟨i 0, i 1, by ext a; fin_cases a <;> rfl⟩
  rw [beside_apply ha hb hc]
  congr 1
  show _ = t * 512 + (r.val * 512 + k.val)
  ring

/-- The pairs of the last merge: its left half is one row of `X 10`, its right half one row of `X 11`. -/
theorem half_lastPair {X : ℕ → ℕ → EReal} {a b : (⟨2, ![1, 256]⟩ : Shape).Idx → EReal} (ha : At a (X 10) 512) (hb : At b (X 11) 0) :
    HalfAt a (lastPair X) 0 0 ∧ HalfAt b (lastPair X) 0 1 := by
  refine ⟨fun r d => ?_, fun r d => ?_⟩
  · rw [ha.at2, lastPair, if_pos (by omega)]
    congr 1
    omega
  · rw [hb.at2, lastPair, if_neg (by omega)]
    congr 1
    omega

end Cert.Tree

end
-- ==== Proof.KernelValue.lean ====
/-
  The kernel's arrays, level by level: what the loads brought in is level 0, every level computes the next one from it, and
  the last merge joins row 2 of level 10 with the one row of level 11. Each step names the kernel's own arrays; the facts
  come from the modules on one block and on one level.
-/
module

public import proofs.«01_k».proof.Proof.KernelLoads
public import proofs.«01_k».proof.Proof.KernelTiles
public import proofs.«01_k».proof.Proof.Pairs

set_option maxRecDepth 16384

@[expose] public section

noncomputable section

namespace Cert.Tree

open Idealize.ShloMosaic hiding ix2 ix3
open Idealize.ShloMosaic.ValueIdx (ix2 ix3)
open Idealize.ShloMosaic.TcCoe
open Cert.KernelIdeal Cert.KernelIdeal.Gen Cert.KernelIdeal.Gen.kernelRun0_A.sl

variable {c : Dev nD} (a6 a7 : Memref sig .tc .vmem S3072x256 .f32) (a8 a9 : Memref sig .tc .vmem S512x1280 .f32)
  (f0 : HbBuf0 (F := Ideal) c hbM0_0) (f1 : HbBuf0 (F := Ideal) c hbM0_1) (f2 : HbBuf0 (F := Ideal) c hbM0_2) (f3 : HbBuf0 (F := Ideal) c hbM0_3)

/-- The states after `k` levels, of the kernel's arguments. -/
def kerStates (f0 : HbBuf0 (F := Ideal) c hbM0_0) (f1 : HbBuf0 (F := Ideal) c hbM0_1) (f2 : HbBuf0 (F := Ideal) c hbM0_2) (k : ℕ) :
    (ℕ → EReal) × (ℕ → EReal) :=
  states (flat (s := S512x1280) f2) (flat (s := S3072x256) f0) (flat (s := S3072x256) f1) k

/-- Level 1 of the first quarter. -/
theorem quarter0 : StatesAt (s := S384x256) (kerStates f0 f1 f2 1) (r_26 c a6 a7 a8 f0 f1 f2) (r_27 c a6 a7 a8 f0 f1 f2) (0 * 256) :=
  tiles3 (S := kerStates f0 f1 f2 0) (n := 384) (m := 128) (t := 0) (x := (r_2 c a6 f0)) (cc := (r_3 c a7 f1)) ⟨(load_h0 a6 f0).reshape shapeCasts_S768x256_S384x512, (load_c0 a7 f1).reshape shapeCasts_S768x256_S384x512⟩
    (merge_halves a8 f2) rfl concatenates_S128x256_S128x256_S128x256_S384x256_d0 rfl rfl

/-- Level 1 of the second quarter. -/
theorem quarter1 : StatesAt (s := S384x256) (kerStates f0 f1 f2 1) (r_52 c a6 a7 a8 f0 f1 f2) (r_53 c a6 a7 a8 f0 f1 f2) (384 * 256) :=
  tiles3 (S := kerStates f0 f1 f2 0) (n := 384) (m := 128) (t := 384) (x := (r_28 c a6 f0)) (cc := (r_29 c a7 f1)) ⟨(load_h1 a6 f0).reshape shapeCasts_S768x256_S384x512, (load_c1 a7 f1).reshape shapeCasts_S768x256_S384x512⟩
    (merge_halves a8 f2) rfl concatenates_S128x256_S128x256_S128x256_S384x256_d0 rfl rfl

/-- Level 1 of the third quarter. -/
theorem quarter2 : StatesAt (s := S384x256) (kerStates f0 f1 f2 1) (r_70 c a6 a7 a8 f0 f1 f2) (r_71 c a6 a7 a8 f0 f1 f2) (768 * 256) :=
  tiles3 (S := kerStates f0 f1 f2 0) (n := 384) (m := 128) (t := 768) (x := (r_54 c a6 f0)) (cc := (r_55 c a7 f1)) ⟨(load_h2 a6 f0).reshape shapeCasts_S768x256_S384x512, (load_c2 a7 f1).reshape shapeCasts_S768x256_S384x512⟩
    (merge_halves a8 f2) rfl concatenates_S128x256_S128x256_S128x256_S384x256_d0 rfl rfl

/-- Level 1, its four quarters stacked: the pairs of level 2. -/
theorem level1 : StatesAt (s := S768x512) (kerStates f0 f1 f2 1) (r_94 c a6 a7 a8 f0 f1 f2) (r_95 c a6 a7 a8 f0 f1 f2) (0 * 512) := by
  have q0 := quarter0 a6 a7 a8 f0 f1 f2
  have q1 := quarter1 a6 a7 a8 f0 f1 f2
  have q2 := quarter2 a6 a7 a8 f0 f1 f2
  have q3 := tiles3 (S := kerStates f0 f1 f2 0) (n := 384) (m := 128) (t := 1152) (x := (r_72 c a6 f0)) (cc := (r_73 c a7 f1))
    ⟨(load_h3 a6 f0).reshape shapeCasts_S768x256_S384x512, (load_c3 a7 f1).reshape shapeCasts_S768x256_S384x512⟩
    (merge_halves a8 f2) rfl concatenates_S128x256_S128x256_S128x256_S384x256_d0 rfl rfl
  have st : StatesAt (s := S1536x256) _ _ _ (0 * 512) :=
    ⟨at_stack [_, _, _, _] concatenates_S384x256_S384x256_S384x256_S384x256_S1536x256_d0 ⟨q0.1, q1.1, q2.1, q3.1, trivial⟩,
      at_stack [_, _, _, _] concatenates_S384x256_S384x256_S384x256_S384x256_S1536x256_d0 ⟨q0.2, q1.2, q2.2, q3.2, trivial⟩⟩
  exact st.pairs shapeCasts_S1536x256_S768x512 rfl rfl

/-- Level 2, in six tiles: the pairs of level 3. -/
theorem level2 : StatesAt (s := S384x512) (kerStates f0 f1 f2 2) (r_131 c a6 a7 a8 f0 f1 f2) (r_132 c a6 a7 a8 f0 f1 f2) (0 * 512) :=
  (tiles6 (n := 768) (m := 128) (t := 0) (level1 a6 a7 a8 f0 f1 f2) (merge_halves a8 f2) rfl
    concatenates_S128x256_S128x256_S128x256_S128x256_S128x256_S128x256_S768x256_d0 rfl rfl).pairs shapeCasts_S768x256_S384x512 rfl rfl

/-- Level 3, in three tiles: the pairs of level 4. -/
theorem level3 : StatesAt (s := S192x512) (kerStates f0 f1 f2 3) (k0_pay188 (r_136 c a6 a7 a8 f0 f1 f2) (r_140 c a6 a7 a8 f0 f1 f2) (r_141 c a6 a7 a8 f0 f1 f2) (r_142 c a6 a7 a8 f0 f1 f2)) (r_143 c a6 a7 a8 f0 f1 f2) (0 * 512) :=
  (tiles3 (n := 384) (m := 128) (t := 0) (level2 a6 a7 a8 f0 f1 f2) (merge_halves a8 f2) rfl
    concatenates_S128x256_S128x256_S128x256_S384x256_d0 rfl rfl).pairs shapeCasts_S384x256_S192x512 rfl rfl

/-- Level 4, all its pairs at once: the pairs of level 5. -/
theorem level4 : StatesAt (s := S96x512) (kerStates f0 f1 f2 4) (k0_pay197 (r_143 c a6 a7 a8 f0 f1 f2) (r_144 c a6 a7 a8 f0 f1 f2) (r_145 c a6 a7 a8 f0 f1 f2) (r_146 c a6 a7 a8 f0 f1 f2) (r_147 c a6 a7 a8 f0 f1 f2)) (r_148 c a6 a7 a8 f0 f1 f2) (0 * 512) :=
  (whole (n := 192) (t := 0) (level3 a6 a7 a8 f0 f1 f2) (merge_halves a8 f2) rfl rfl).pairs shapeCasts_S192x256_S96x512 rfl rfl

/-- Level 5, all its pairs at once: the pairs of level 6. -/
theorem level5 : StatesAt (s := S48x512) (kerStates f0 f1 f2 5) (k0_pay206 (r_148 c a6 a7 a8 f0 f1 f2) (r_149 c a6 a7 a8 f0 f1 f2) (r_150 c a6 a7 a8 f0 f1 f2) (r_151 c a6 a7 a8 f0 f1 f2) (r_152 c a6 a7 a8 f0 f1 f2)) (r_153 c a6 a7 a8 f0 f1 f2) (0 * 512) :=
  (whole (n := 96) (t := 0) (level4 a6 a7 a8 f0 f1 f2) (merge_halves a8 f2) rfl rfl).pairs shapeCasts_S96x256_S48x512 rfl rfl

/-- Level 6, all its pairs at once: the pairs of level 7. -/
theorem level6 : StatesAt (s := S24x512) (kerStates f0 f1 f2 6) (k0_pay217 (r_153 c a6 a7 a8 f0 f1 f2) (r_154 c a6 a7 a8 f0 f1 f2) (r_155 c a6 a7 a8 f0 f1 f2) (r_156 c a6 a7 a8 f0 f1 f2) (r_157 c a6 a7 a8 f0 f1 f2) (r_158 c a6 a7 a8 f0 f1 f2) (k0_pay215 (F := Ideal))) (r_159 c a6 a7 a8 f0 f1 f2) (0 * 512) :=
  (whole (n := 48) (t := 0) (level5 a6 a7 a8 f0 f1 f2) (merge_halves a8 f2) rfl rfl).pairs shapeCasts_S48x256_S24x512 rfl rfl

/-- Level 7, all its pairs at once: the pairs of level 8. -/
theorem level7 : StatesAt (s := S12x512) (kerStates f0 f1 f2 7) (k0_pay227 (r_159 c a6 a7 a8 f0 f1 f2) (r_160 c a6 a7 a8 f0 f1 f2) (r_161 c a6 a7 a8 f0 f1 f2) (r_162 c a6 a7 a8 f0 f1 f2) (r_163 c a6 a7 a8 f0 f1 f2) (r_164 c a6 a7 a8 f0 f1 f2)) (r_165 c a6 a7 a8 f0 f1 f2) (0 * 512) :=
  (whole (n := 24) (t := 0) (level6 a6 a7 a8 f0 f1 f2) (merge_halves a8 f2) rfl rfl).pairs shapeCasts_S24x256_S12x512 rfl rfl

/-- Level 8, all its pairs at once: the pairs of level 9. -/
theorem level8 : StatesAt (s := S6x512) (kerStates f0 f1 f2 8) (k0_pay237 (r_165 c a6 a7 a8 f0 f1 f2) (r_166 c a6 a7 a8 f0 f1 f2) (r_167 c a6 a7 a8 f0 f1 f2) (r_168 c a6 a7 a8 f0 f1 f2) (r_169 c a6 a7 a8 f0 f1 f2) (r_170 c a6 a7 a8 f0 f1 f2) cst_68) (r_171 c a6 a7 a8 f0 f1 f2) (0 * 512) :=
  (whole (n := 12) (t := 0) (level7 a6 a7 a8 f0 f1 f2) (merge_halves a8 f2) rfl rfl).pairs shapeCasts_S12x256_S6x512 rfl rfl

/-- Level 9, all its pairs at once: the pairs of level 10. -/
theorem level9 : StatesAt (s := S3x512) (kerStates f0 f1 f2 9) (k0_pay247 (r_171 c a6 a7 a8 f0 f1 f2) (r_172 c a6 a7 a8 f0 f1 f2) (r_173 c a6 a7 a8 f0 f1 f2) (r_174 c a6 a7 a8 f0 f1 f2) (r_175 c a6 a7 a8 f0 f1 f2) (r_176 c a6 a7 a8 f0 f1 f2)) (r_177 c a6 a7 a8 f0 f1 f2) (0 * 512) :=
  (whole (n := 6) (t := 0) (level8 a6 a7 a8 f0 f1 f2) (merge_halves a8 f2) rfl rfl).pairs shapeCasts_S6x256_S3x512 rfl rfl

/-- Level 10: three rows. -/
theorem level10 : StatesAt (s := S3x256) (kerStates f0 f1 f2 10) (r_184 c a6 a7 a8 f0 f1 f2) (r_183 c a6 a7 a8 f0 f1 f2) (0 * 256) :=
  whole (n := 3) (t := 0) (level9 a6 a7 a8 f0 f1 f2) (merge_halves a8 f2) rfl rfl

/-- Level 11, of the first two rows of level 10: one row. -/
theorem level11 : StatesAt (s := S1x256) (kerStates f0 f1 f2 11)
    (truncf (F := Ideal) .bf16 (mulf (r_188 c a6 a7 a8 f0 f1 f2) (tanh (k0_pay266 (r_185 c a6 a7 a8 f0 f1 f2) (r_186 c a6 a7 a8 f0 f1 f2) (r_187 c a6 a7 a8 f0 f1 f2) (r_189 c a6 a7 a8 f0 f1 f2) (r_190 c a6 a7 a8 f0 f1 f2) cst_68))) (by decide))
    (k0_pay266 (r_185 c a6 a7 a8 f0 f1 f2) (r_186 c a6 a7 a8 f0 f1 f2) (r_187 c a6 a7 a8 f0 f1 f2) (r_189 c a6 a7 a8 f0 f1 f2) (r_190 c a6 a7 a8 f0 f1 f2) cst_68) (0 * 256) := by
  have l := level10 a6 a7 a8 f0 f1 f2
  have hX : StatesAt (s := S1x512) (kerStates f0 f1 f2 10) (k0_pay258 (r_177 c a6 a7 a8 f0 f1 f2) (r_178 c a6 a7 a8 f0 f1 f2) (r_179 c a6 a7 a8 f0 f1 f2) (r_180 c a6 a7 a8 f0 f1 f2) (r_181 c a6 a7 a8 f0 f1 f2) (r_182 c a6 a7 a8 f0 f1 f2) cst_68) (r_185 c a6 a7 a8 f0 f1 f2) (0 * 512) :=
    ⟨(l.1.rows slices_S3x256_o0_0_S2x256 (0 * 512) rfl).reshape shapeCasts_S2x256_S1x512,
      (l.2.rows slices_S3x256_o0_0_S2x256 (0 * 512) rfl).reshape shapeCasts_S2x256_S1x512⟩
  exact whole (n := 1) (t := 0) hX (merge_halves a8 f2) rfl rfl

/-- What the last merge reads: row 2 of level 10 beside the row of level 11. -/
theorem last_pair : StatesAt (s := S1x512) (lastPair fun k => (kerStates f0 f1 f2 k).1, lastPair fun k => (kerStates f0 f1 f2 k).2)
    (k0_pay268 (r_184 c a6 a7 a8 f0 f1 f2) (r_185 c a6 a7 a8 f0 f1 f2) (r_186 c a6 a7 a8 f0 f1 f2) (r_187 c a6 a7 a8 f0 f1 f2) (r_188 c a6 a7 a8 f0 f1 f2) (r_189 c a6 a7 a8 f0 f1 f2) (r_190 c a6 a7 a8 f0 f1 f2) cst_68) (r_191 c a6 a7 a8 f0 f1 f2) (0 * 512) := by
  have l := level10 a6 a7 a8 f0 f1 f2
  have r := level11 a6 a7 a8 f0 f1 f2
  have hh := half_lastPair (X := fun k => (kerStates f0 f1 f2 k).1) (l.1.rows slices_S3x256_o2_0_S1x256 512 rfl) r.1
  have hc := half_lastPair (X := fun k => (kerStates f0 f1 f2 k).2) (l.2.rows slices_S3x256_o2_0_S1x256 512 rfl) r.2
  exact ⟨at_beside hh.1 hh.2 concatenates_S1x256_S1x256_S1x512_d1, at_beside hc.1 hc.2 concatenates_S1x256_S1x256_S1x512_d1⟩

/-- The kernel's results are the final states of its arguments. -/
theorem results : StatesAt (s := S1x256)
    (finalH (flat (s := S512x1280) f2) (flat (s := S512x1280) f3) (flat (s := S3072x256) f0) (flat (s := S3072x256) f1),
      finalC (flat (s := S512x1280) f2) (flat (s := S512x1280) f3) (flat (s := S3072x256) f0) (flat (s := S3072x256) f1))
    (k0_pay2 (r_191 c a6 a7 a8 f0 f1 f2) (r_195 c a6 a7 a8 a9 f0 f1 f2 f3) (r_196 c a6 a7 a8 a9 f0 f1 f2 f3) (r_197 c a6 a7 a8 a9 f0 f1 f2 f3) (r_198 c a6 a7 a8 a9 f0 f1 f2 f3))
    (k0_pay1 (r_191 c a6 a7 a8 f0 f1 f2) (r_196 c a6 a7 a8 a9 f0 f1 f2 f3) (r_197 c a6 a7 a8 a9 f0 f1 f2 f3) (r_198 c a6 a7 a8 a9 f0 f1 f2 f3)) 0 := by
  have l := last_pair a6 a7 a8 f0 f1 f2
  have w := sum_halves a9 f3
  exact ⟨at_blockH (m := 1) (t := 0) l.1 l.2 w, at_blockC (m := 1) (t := 0) l.1 l.2 w⟩

end Cert.Tree

end
-- ==== Proof.KernelRun.lean ====
/-
  The kernel's run: its two result arrays, at the one point of the grid, are the two stored blocks, so they hold the final
  states of the arguments.
-/
module

public import proofs.«01_k».proof.Proof.KernelValue

set_option maxRecDepth 16384

@[expose] public section

noncomputable section

namespace Cert.Tree

open Idealize.ShloMosaic hiding ix2 ix3
open Idealize.ShloMosaic.TcCoe
open Cert.KernelIdeal Cert.KernelIdeal.Gen Cert.KernelIdeal.Value Cert.KernelIdeal.Gen.kernelRun0_A.sl

section

variable {c : Dev nD} (a4 : Memref sig .tc .vmem S1x256 .f32) (h4 : a4.IsWhole) (a5 : Memref sig .tc .vmem S1x256 .f32) (h5 : a5.IsWhole)
  (a6 : Memref sig .tc .vmem S3072x256 .f32) (h6 : a6.IsWhole) (a7 : Memref sig .tc .vmem S3072x256 .f32) (h7 : a7.IsWhole)
  (a8 : Memref sig .tc .vmem S512x1280 .f32) (h8 : a8.IsWhole) (a9 : Memref sig .tc .vmem S512x1280 .f32) (h9 : a9.IsWhole)
  (f0 : HbBuf0 (F := Ideal) c hbM0_0) (f1 : HbBuf0 (F := Ideal) c hbM0_1) (f2 : HbBuf0 (F := Ideal) c hbM0_2) (f3 : HbBuf0 (F := Ideal) c hbM0_3)

/-- What one store of the whole block leaves is what was stored. -/
theorem stored (v : View sig .tc .vmem S1x256 .f32) (w : S1x256.Idx → Elt Ideal .f32) :
    v.read (Elt Ideal) (v.writes (Elt Ideal) v.junk [⟨Rect.unit ![0, 0] S1x256.size inb_S1x256_S1x256_0_0, w⟩]) = w := by
  rw [View.read_writes_junk_eq_canon]
  exact View.canon_cons_unit_lit' (S := S1x256) _ w [] (by decide)

/-- What the body leaves in the buffer of the first result. -/
theorem out_h : out0_A_0 c a4 h4 a5 h5 a6 h6 a7 h7 a8 h8 a9 h9 f0 f1 f2 f3
    = (k0_pay2 (r_191 c a6 a7 a8 f0 f1 f2) (r_195 c a6 a7 a8 a9 f0 f1 f2 f3) (r_196 c a6 a7 a8 a9 f0 f1 f2 f3) (r_197 c a6 a7 a8 a9 f0 f1 f2 f3) (r_198 c a6 a7 a8 a9 f0 f1 f2 f3)) :=
  stored VO0_0 _

/-- What the body leaves in the buffer of the second result. -/
theorem out_c : out0_A_1 c a4 h4 a5 h5 a6 h6 a7 h7 a8 h8 a9 h9 f0 f1 f2 f3
    = (k0_pay1 (r_191 c a6 a7 a8 f0 f1 f2) (r_196 c a6 a7 a8 a9 f0 f1 f2 f3) (r_197 c a6 a7 a8 a9 f0 f1 f2 f3) (r_198 c a6 a7 a8 a9 f0 f1 f2 f3)) :=
  stored VO0_1 _

end

variable (m : (ℓ : Loc nD τ sig) → Buf (Elt Ideal) ℓ) (c : Dev nD)

/-- The one point of the grid. -/
def point : Fin cfg0.N := ⟨0, by decide⟩

/-- A place in the block of either result is the same place in the array. -/
theorem emb_h (j : S1x256.Idx) : ((cfg0.win 0).blk point).view.emb j = j := by
  funext a
  apply Fin.ext
  match a with
  | ⟨0, _⟩ => show 0 * 1 + 1 * (j 0).val = (j 0).val; omega
  | ⟨1, _⟩ => show 0 * 256 + 1 * (j 1).val = (j 1).val; omega

theorem emb_c (j : S1x256.Idx) : ((cfg0.win 1).blk point).view.emb j = j := by
  funext a
  apply Fin.ext
  match a with
  | ⟨0, _⟩ => show 0 * 1 + 1 * (j 0).val = (j 0).val; omega
  | ⟨1, _⟩ => show 0 * 256 + 1 * (j 1).val = (j 1).val; omega

/-- The first result array after the run is the final hidden state of the arguments. -/
theorem array_h : At (s := S1x256) ((dats m 0 c).arrAt 0 cfg0.N) (finalH (flat (s := S512x1280) (m ((c : Thread nD τ).loc main_arg2))) (flat (s := S512x1280) (m ((c : Thread nD τ).loc main_arg4)))
      (flat (s := S3072x256) (m ((c : Thread nD τ).loc main_arg0))) (flat (s := S3072x256) (m ((c : Thread nD τ).loc main_arg1)))) 0 := by
  have hb := (blocks0 m c point (flush0_0 _)).trans (flushed0_A m c point)
  rw [out_h] at hb
  have r := (results scM0_0 scM0_1 scM0_2 scM0_3 (V m c main_arg0) (V m c main_arg1) (V m c main_arg2) (V m c main_arg4)).1
  rw [V_main_arg0, V_main_arg1, V_main_arg2, V_main_arg4] at r hb
  intro j
  refine Eq.trans ?_ (r j)
  have hj := congrFun hb j
  exact (congrArg ((dats m 0 c).arrAt 0 cfg0.N) (emb_h j)).symm.trans hj

/-- The second result array after the run is the final cell state of the arguments. -/
theorem array_c : At (s := S1x256) ((dats m 0 c).arrAt 1 cfg0.N) (finalC (flat (s := S512x1280) (m ((c : Thread nD τ).loc main_arg2))) (flat (s := S512x1280) (m ((c : Thread nD τ).loc main_arg4)))
      (flat (s := S3072x256) (m ((c : Thread nD τ).loc main_arg0))) (flat (s := S3072x256) (m ((c : Thread nD τ).loc main_arg1)))) 0 := by
  have hb := (blocks1 m c point (flush0_1 _)).trans (flushed1_A m c point)
  rw [out_c] at hb
  have r := (results scM0_0 scM0_1 scM0_2 scM0_3 (V m c main_arg0) (V m c main_arg1) (V m c main_arg2) (V m c main_arg4)).2
  rw [V_main_arg0, V_main_arg1, V_main_arg2, V_main_arg4] at r hb
  intro j
  refine Eq.trans ?_ (r j)
  have hj := congrFun hb j
  exact (congrArg ((dats m 0 c).arrAt 1 cfg0.N) (emb_c j)).symm.trans hj

end Cert.Tree

end
-- ==== Proof.ReferenceCell.lean ====
/-
  What the reference computes for `m` pairs of rows at once: the two rows of a pair side by side, one matmul with the whole
  weights, the sigmoid written out as a quotient. Stated for every `m`, because every level of the reference is this
  computation.
-/
module

public import proofs.«01_k».proof.Proof.KernelCell
public import proofs.«01_k».proof.Proof.Pairs
public import Idealize.ShloMosaic.Lib.IdealHost

@[expose] public section

noncomputable section

namespace Cert.Tree

open Idealize.ShloMosaic hiding ix2 ix3
open Idealize.ShloMosaic.ValueIdx (ix2 ix3)

variable {m : ℕ}

/-- The reference's gates: the pair times the whole weights, plus the bias. -/
def refGates (a b : FVec Ideal ⟨2, ![m, 256]⟩ .f32)
    (hc : Shape.Concatenates [(⟨2, ![m, 256]⟩ : Shape), ⟨2, ![m, 256]⟩] ⟨2, ![m, 512]⟩ 1)
    (w : FVec Ideal ⟨2, ![512, 1280]⟩ .f32) (bias : FVec Ideal ⟨2, ![m, 1280]⟩ .f32) : FVec Ideal ⟨2, ![m, 1280]⟩ .f32 :=
  addf (Host.dotGeneral (DotDims.plain m 512 1280) none
    (concatenate ⟨2, ![m, 512]⟩ 1 [⟨(⟨2, ![m, 256]⟩ : Shape), a⟩, ⟨(⟨2, ![m, 256]⟩ : Shape), b⟩] hc) w) bias

/-- The rows of `g` are the gate rows of the pairs from `t` on. -/
def GatesAt (g : FVec Ideal ⟨2, ![m, 1280]⟩ .f32) (W H : ℕ → EReal) (t : ℕ) : Prop :=
  ∀ (r : Fin m) (j : Fin 1280), g (ix2 r j) = gate W H (t + r.val) j.val

/-- With a bias of zeros the reference's gates are the gate rows. -/
theorem at_refGates {a b : FVec Ideal ⟨2, ![m, 256]⟩ .f32} {w : FVec Ideal ⟨2, ![512, 1280]⟩ .f32}
    {bias : FVec Ideal ⟨2, ![m, 1280]⟩ .f32} {W H : ℕ → EReal} {t : ℕ} (ha : HalfAt a H t 0) (hb : HalfAt b H t 1)
    (hw : At w W 0) (hbias : ∀ i, bias i = (0 : EReal))
    (hc : Shape.Concatenates [(⟨2, ![m, 256]⟩ : Shape), ⟨2, ![m, 256]⟩] ⟨2, ![m, 512]⟩ 1) :
    GatesAt (refGates a b hc w bias) W H t := by
  intro r j
  show Host.dotGeneral (DotDims.plain m 512 1280) none _ w (ix2 r j) + bias (ix2 r j) = _
  rw [hbias, add_zero, StackMember.dotGeneral_plain_apply]
  refine Finset.sum_congr rfl fun k _ => ?_
  rw [beside_apply ha hb hc, hw.at2, Nat.zero_add]

/-- The reference's sigmoid. -/
def refSig {s : Shape} (hb : Shape.BroadcastsInDim (⟨0, ![]⟩ : Shape) s ![]) (z : FVec Ideal s .f32) : FVec Ideal s .f32 :=
  Host.divf (broadcastInDim s ![] hb (constant (F := Ideal) ⟨0, ![]⟩ .f32 0x3F800000#32))
    (addf (broadcastInDim s ![] hb (constant (F := Ideal) ⟨0, ![]⟩ .f32 0x3F800000#32)) (Host.exp (Host.negf z)))

/-- The reference's sigmoid is the logistic function. -/
theorem refSig_apply {s : Shape} (hb : Shape.BroadcastsInDim (⟨0, ![]⟩ : Shape) s ![]) (z : FVec Ideal s .f32) (i : s.Idx) :
    refSig hb z i = Ideal.logistic (z i) := by
  show Ideal.div (Ideal.ofBits .f32 0x3F800000#32) (Ideal.ofBits .f32 0x3F800000#32 + Ideal.exp (-(z i))) = _
  rw [Ideal.ofBits_one_f32]
  rfl

/-- The reference's cell states. -/
def refC (hb : Shape.BroadcastsInDim (⟨0, ![]⟩ : Shape) ⟨2, ![m, 256]⟩ ![]) (g : FVec Ideal ⟨2, ![m, 1280]⟩ .f32)
    (cl cr : FVec Ideal ⟨2, ![m, 256]⟩ .f32) : FVec Ideal ⟨2, ![m, 256]⟩ .f32 :=
  addf (addf (mulf (refSig hb (cut 0 (by decide) g)) (Host.tanh (cut 512 (by decide) g)))
      (mulf (refSig hb (cut 768 (by decide) g)) cl))
    (mulf (refSig hb (cut 1024 (by decide) g)) cr)

/-- The reference's hidden states, from its gates and its cell states. -/
def refH (hb : Shape.BroadcastsInDim (⟨0, ![]⟩ : Shape) ⟨2, ![m, 256]⟩ ![]) (g : FVec Ideal ⟨2, ![m, 1280]⟩ .f32)
    (c : FVec Ideal ⟨2, ![m, 256]⟩ .f32) : FVec Ideal ⟨2, ![m, 256]⟩ .f32 :=
  mulf (refSig hb (cut 256 (by decide) g)) (Host.tanh c)

section

variable {g : FVec Ideal ⟨2, ![m, 1280]⟩ .f32} {W H C : ℕ → EReal} {t : ℕ} {cl cr c : FVec Ideal ⟨2, ![m, 256]⟩ .f32}

/-- A gate of the reference, cut out at column `a`. -/
theorem cutG (hg : GatesAt g W H t) (a : ℕ) (ha : a + 256 ≤ 1280) (r : Fin m) (d : Fin 256) :
    cut a ha g (ix2 r d) = gate W H (t + r.val) (a + d.val) := by
  unfold cut
  rw [cols_apply a _ _ r d (by omega), hg]

/-- The reference's cell states for the pairs from `t` on are the level's from row `t` on. -/
theorem at_refC (hg : GatesAt g W H t) (hl : HalfAt cl C t 0) (hr : HalfAt cr C t 1)
    (hb : Shape.BroadcastsInDim (⟨0, ![]⟩ : Shape) ⟨2, ![m, 256]⟩ ![]) :
    At (refC hb g cl cr) (cellC W H C) (t * 256) := by
  apply At.of2
  intro i
  obtain ⟨r, d, rfl⟩ : ∃ (r : Fin m) (d : Fin 256), i = ix2 r d := ⟨i 0, i 1, by ext a; fin_cases a <;> rfl⟩
  show refSig hb _ (ix2 r d) * Ideal.tanh (cut _ _ _ (ix2 r d)) + refSig hb _ (ix2 r d) * cl (ix2 r d)
    + refSig hb _ (ix2 r d) * cr (ix2 r d) = cellC W H C (t * 256 + (r.val * 256 + d.val))
  simp only [refSig_apply, cutG hg, hl r d, hr r d, cellC, (position t r d).1, (position t r d).2]
  simp only [Nat.zero_add, Nat.zero_mul, Nat.one_mul]

/-- The reference's hidden states for the pairs from `t` on are the level's from row `t` on. -/
theorem at_refH (hg : GatesAt g W H t) (hc : At c (cellC W H C) (t * 256))
    (hb : Shape.BroadcastsInDim (⟨0, ![]⟩ : Shape) ⟨2, ![m, 256]⟩ ![]) :
    At (refH hb g c) (cellH W H C) (t * 256) := by
  apply At.of2
  intro i
  obtain ⟨r, d, rfl⟩ : ∃ (r : Fin m) (d : Fin 256), i = ix2 r d := ⟨i 0, i 1, by ext a; fin_cases a <;> rfl⟩
  show refSig hb _ (ix2 r d) * Ideal.tanh (c (ix2 r d)) = cellH W H C (t * 256 + (r.val * 256 + d.val))
  rw [hc.at2]
  simp only [refSig_apply, cutG hg, cellH, (position t r d).1, (position t r d).2]

end

end Cert.Tree
-- ==== Proof.ReferenceValue.lean ====
/-
  The reference's two results as functions of its arguments: level after level of both blocks, each by the one lemma about
  a level, and the last merge.
-/
module

public import proofs.«01_k».proof.Proof.ReferenceCell
public import proofs.«01_k».proof.Proof.Gen.ReferenceIdeal.Run

set_option maxRecDepth 16384

@[expose] public section

noncomputable section

namespace Cert.Tree

open Idealize.ShloMosaic hiding ix2 ix3
open Idealize.ShloMosaic.ValueIdx (ix2 ix3)
open Idealize.ShloMosaic.TcCoe
open Cert.ReferenceIdeal Cert.ReferenceIdeal.Value Cert.ReferenceIdeal.Gen

/-- Half `s` of every pair, as the reference cuts it out. -/
def halfOf {m : ℕ} (s : ℕ) (hs : (⟨3, ![m, 2, 256]⟩ : Shape).Slices ![0, s, 0] ⟨3, ![m, 1, 256]⟩)
    (hc : (⟨3, ![m, 1, 256]⟩ : Shape).ShapeCasts ⟨2, ![m, 256]⟩) (v : FVec Ideal ⟨3, ![m, 2, 256]⟩ .f32) :
    FVec Ideal ⟨2, ![m, 256]⟩ .f32 :=
  shapeCast ⟨2, ![m, 256]⟩ (extractStridedSlice ⟨3, ![m, 1, 256]⟩ ![0, s, 0] v hs) hc

section

variable {m : ℕ} {h2 c2 : FVec Ideal ⟨3, ![m, 2, 256]⟩ .f32} {w : FVec Ideal ⟨2, ![512, 1280]⟩ .f32}
  {bias g : FVec Ideal ⟨2, ![m, 1280]⟩ .f32} {c h : FVec Ideal ⟨2, ![m, 256]⟩ .f32} {W : ℕ → EReal} {S : (ℕ → EReal) × (ℕ → EReal)} {t : ℕ}
  {hs0 : (⟨3, ![m, 2, 256]⟩ : Shape).Slices ![0, 0, 0] ⟨3, ![m, 1, 256]⟩}
  {hs1 : (⟨3, ![m, 2, 256]⟩ : Shape).Slices ![0, 1, 0] ⟨3, ![m, 1, 256]⟩}
  {hc : (⟨3, ![m, 1, 256]⟩ : Shape).ShapeCasts ⟨2, ![m, 256]⟩}
  {hk : Shape.Concatenates [(⟨2, ![m, 256]⟩ : Shape), ⟨2, ![m, 256]⟩] ⟨2, ![m, 512]⟩ 1}
  {hb : Shape.BroadcastsInDim (⟨0, ![]⟩ : Shape) ⟨2, ![m, 256]⟩ ![]}

/-- One level of the reference: from the pairs `h2` and `c2` to the merged rows. -/
theorem merged (hS : StatesAt S h2 c2 (t * 512)) (hw : At w W 0) (hbias : ∀ i, bias i = (0 : EReal))
    (eg : g = refGates (halfOf 0 hs0 hc h2) (halfOf 1 hs1 hc h2) hk w bias)
    (ec : c = refC hb g (halfOf 0 hs0 hc c2) (halfOf 1 hs1 hc c2)) (eh : h = refH hb g c) :
    StatesAt (cellH W S.1 S.2, cellC W S.1 S.2) h c (t * 256) := by
  have hg : GatesAt g W S.1 t :=
    eg ▸ at_refGates (half_of_pairs hS.1 0 hs0 hc) (half_of_pairs hS.1 1 hs1 hc) hw hbias hk
  have hC : At c (cellC W S.1 S.2) (t * 256) :=
    ec ▸ at_refC hg (half_of_pairs hS.2 0 hs0 hc) (half_of_pairs hS.2 1 hs1 hc) hb
  exact ⟨eh ▸ at_refH hg hC hb, hC⟩

/-- The same, with the merged rows paired up for the next level. -/
theorem level {n : ℕ} {h' c' : FVec Ideal ⟨3, ![n, 2, 256]⟩ .f32} {hr : (⟨2, ![m, 256]⟩ : Shape).ShapeCasts ⟨3, ![n, 2, 256]⟩}
    (hS : StatesAt S h2 c2 (t * 512)) (hw : At w W 0) (hbias : ∀ i, bias i = (0 : EReal))
    (eg : g = refGates (halfOf 0 hs0 hc h2) (halfOf 1 hs1 hc h2) hk w bias)
    (ec : c = refC hb g (halfOf 0 hs0 hc c2) (halfOf 1 hs1 hc c2))
    (eh : h' = shapeCast ⟨3, ![n, 2, 256]⟩ (refH hb g c) hr) (ec' : c' = shapeCast ⟨3, ![n, 2, 256]⟩ c hr) :
    StatesAt (cellH W S.1 S.2, cellC W S.1 S.2) h' c' (t * 256) := by
  have hM := merged (hk := hk) hS hw hbias eg ec rfl
  exact ⟨eh ▸ hM.1.reshape hr, ec' ▸ hM.2.reshape hr⟩

end

/-- The hidden state of the root of the block of 2048 rows. -/
def rootH (V0 : Valuation τ sig (Elt Ideal)) : FVec Ideal S1x256 .f32 := refH bcast_S_S1x256 (res_main_v535 V0) (res_main_v570 V0)

/-- The hidden state of the root of the block of 1024 rows. -/
def rootH' (V0 : Valuation τ sig (Elt Ideal)) : FVec Ideal S1x256 .f32 := refH bcast_S_S1x256 (res_main_v1056 V0) (res_main_v1091 V0)

/-- The reference's second result. -/
def resultC (V0 : Valuation τ sig (Elt Ideal)) : FVec Ideal S1x256 .f32 :=
  refC bcast_S_S1x256 (res_main_v1097 V0) (res_main_v1091 V0) (res_main_v570 V0)

/-- The reference's first result. -/
def resultH (V0 : Valuation τ sig (Elt Ideal)) : FVec Ideal S1x256 .f32 := refH bcast_S_S1x256 (res_main_v1097 V0) (resultC V0)

section

variable (V0 : Valuation τ sig (Elt Ideal))

/-- The states after `k` levels, of the reference's arguments. -/
def refStates (k : ℕ) : (ℕ → EReal) × (ℕ → EReal) :=
  states (flat (s := S512x1280) (V0 (Proc.devRef .tc main_arg2))) (flat (s := S3072x256) (V0 (Proc.devRef .tc main_arg0)))
    (flat (s := S3072x256) (V0 (Proc.devRef .tc main_arg1))) k

/-- The block of 2048 rows: after eleven levels its root is row 0. -/
theorem rootH_at (hb : ∀ i, V0 (Proc.devRef .tc main_arg3) i = (0 : EReal)) :
    StatesAt (refStates V0 11) (rootH V0) (res_main_v570 V0) 0 := by
  have hw := at_flat (s := S512x1280) (V0 (Proc.devRef .tc main_arg2))
  have l0 : StatesAt (s := S1024x2x256) (refStates V0 0) (res_main_v2 V0) (res_main_v3 V0) (0 * 512) :=
    ⟨((at_flat _).rows slices_S3072x256_S2048x256_0_0 (0 * 512) rfl).reshape _, ((at_flat _).rows slices_S3072x256_S2048x256_0_0 (0 * 512) rfl).reshape _⟩
  have l1 : StatesAt (s := S512x2x256) (refStates V0 1) (res_main_v54 V0) (res_main_v55 V0) (0 * 512) :=
    level (t := 0) l0 hw (fun _ => hb _) rfl rfl rfl rfl
  have l2 : StatesAt (s := S256x2x256) (refStates V0 2) (res_main_v106 V0) (res_main_v107 V0) (0 * 512) :=
    level (t := 0) l1 hw (fun _ => hb _) rfl rfl rfl rfl
  have l3 : StatesAt (s := S128x2x256) (refStates V0 3) (res_main_v158 V0) (res_main_v159 V0) (0 * 512) :=
    level (t := 0) l2 hw (fun _ => hb _) rfl rfl rfl rfl
  have l4 : StatesAt (s := S64x2x256) (refStates V0 4) (res_main_v210 V0) (res_main_v211 V0) (0 * 512) :=
    level (t := 0) l3 hw (fun _ => hb _) rfl rfl rfl rfl
  have l5 : StatesAt (s := S32x2x256) (refStates V0 5) (res_main_v262 V0) (res_main_v263 V0) (0 * 512) :=
    level (t := 0) l4 hw (fun _ => hb _) rfl rfl rfl rfl
  have l6 : StatesAt (s := S16x2x256) (refStates V0 6) (res_main_v314 V0) (res_main_v315 V0) (0 * 512) :=
    level (t := 0) l5 hw (fun _ => hb _) rfl rfl rfl rfl
  have l7 : StatesAt (s := S8x2x256) (refStates V0 7) (res_main_v366 V0) (res_main_v367 V0) (0 * 512) :=
    level (t := 0) l6 hw (fun _ => hb _) rfl rfl rfl rfl
  have l8 : StatesAt (s := S4x2x256) (refStates V0 8) (res_main_v418 V0) (res_main_v419 V0) (0 * 512) :=
    level (t := 0) l7 hw (fun _ => hb _) rfl rfl rfl rfl
  have l9 : StatesAt (s := S2x2x256) (refStates V0 9) (res_main_v470 V0) (res_main_v471 V0) (0 * 512) :=
    level (t := 0) l8 hw (fun _ => hb _) rfl rfl rfl rfl
  have l10 : StatesAt (s := S1x2x256) (refStates V0 10) (res_main_v522 V0) (res_main_v523 V0) (0 * 512) :=
    level (t := 0) l9 hw (fun _ => hb _) rfl rfl rfl rfl
  exact merged (t := 0) l10 hw (fun _ => hb _) rfl rfl rfl

/-- The block of 1024 rows: after ten levels its root is row 2. -/
theorem rootH'_at (hb : ∀ i, V0 (Proc.devRef .tc main_arg3) i = (0 : EReal)) :
    StatesAt (refStates V0 10) (rootH' V0) (res_main_v1091 V0) 512 := by
  have hw := at_flat (s := S512x1280) (V0 (Proc.devRef .tc main_arg2))
  have l0 : StatesAt (s := S512x2x256) (refStates V0 0) (res_main_v575 V0) (res_main_v576 V0) (1024 * 512) :=
    ⟨((at_flat _).rows slices_S3072x256_S1024x256_2048_0 (1024 * 512) rfl).reshape _, ((at_flat _).rows slices_S3072x256_S1024x256_2048_0 (1024 * 512) rfl).reshape _⟩
  have l1 : StatesAt (s := S256x2x256) (refStates V0 1) (res_main_v627 V0) (res_main_v628 V0) (512 * 512) :=
    level (t := 1024) l0 hw (fun _ => hb _) rfl rfl rfl rfl
  have l2 : StatesAt (s := S128x2x256) (refStates V0 2) (res_main_v679 V0) (res_main_v680 V0) (256 * 512) :=
    level (t := 512) l1 hw (fun _ => hb _) rfl rfl rfl rfl
  have l3 : StatesAt (s := S64x2x256) (refStates V0 3) (res_main_v731 V0) (res_main_v732 V0) (128 * 512) :=
    level (t := 256) l2 hw (fun _ => hb _) rfl rfl rfl rfl
  have l4 : StatesAt (s := S32x2x256) (refStates V0 4) (res_main_v783 V0) (res_main_v784 V0) (64 * 512) :=
    level (t := 128) l3 hw (fun _ => hb _) rfl rfl rfl rfl
  have l5 : StatesAt (s := S16x2x256) (refStates V0 5) (res_main_v835 V0) (res_main_v836 V0) (32 * 512) :=
    level (t := 64) l4 hw (fun _ => hb _) rfl rfl rfl rfl
  have l6 : StatesAt (s := S8x2x256) (refStates V0 6) (res_main_v887 V0) (res_main_v888 V0) (16 * 512) :=
    level (t := 32) l5 hw (fun _ => hb _) rfl rfl rfl rfl
  have l7 : StatesAt (s := S4x2x256) (refStates V0 7) (res_main_v939 V0) (res_main_v940 V0) (8 * 512) :=
    level (t := 16) l6 hw (fun _ => hb _) rfl rfl rfl rfl
  have l8 : StatesAt (s := S2x2x256) (refStates V0 8) (res_main_v991 V0) (res_main_v992 V0) (4 * 512) :=
    level (t := 8) l7 hw (fun _ => hb _) rfl rfl rfl rfl
  have l9 : StatesAt (s := S1x2x256) (refStates V0 9) (res_main_v1043 V0) (res_main_v1044 V0) (2 * 512) :=
    level (t := 4) l8 hw (fun _ => hb _) rfl rfl rfl rfl
  exact merged (t := 2) l9 hw (fun _ => hb _) rfl rfl rfl

/-- The reference's results are the final states of its arguments, the biases being zero. -/
theorem result_at (hb : ∀ i, V0 (Proc.devRef .tc main_arg3) i = (0 : EReal)) (hb' : ∀ i, V0 (Proc.devRef .tc main_arg5) i = (0 : EReal)) :
    At (resultH V0) (finalH (flat (s := S512x1280) (V0 (Proc.devRef .tc main_arg2))) (flat (s := S512x1280) (V0 (Proc.devRef .tc main_arg4)))
        (flat (s := S3072x256) (V0 (Proc.devRef .tc main_arg0))) (flat (s := S3072x256) (V0 (Proc.devRef .tc main_arg1)))) 0
      ∧ At (resultC V0) (finalC (flat (s := S512x1280) (V0 (Proc.devRef .tc main_arg2))) (flat (s := S512x1280) (V0 (Proc.devRef .tc main_arg4)))
        (flat (s := S3072x256) (V0 (Proc.devRef .tc main_arg0))) (flat (s := S3072x256) (V0 (Proc.devRef .tc main_arg1)))) 0 := by
  have ha := rootH_at V0 hb
  have ha' := rootH'_at V0 hb
  have hh := half_lastPair (X := fun k => (refStates V0 k).1) ha'.1 ha.1
  have hc := half_lastPair (X := fun k => (refStates V0 k).2) ha'.2 ha.2
  have hg : GatesAt (m := 1) (res_main_v1097 V0) (flat (s := S512x1280) (V0 (Proc.devRef .tc main_arg4))) (lastPair fun k => (refStates V0 k).1) 0 :=
    at_refGates hh.1 hh.2 (at_flat _) (fun _ => hb' _) _
  have hC := at_refC hg hc.1 hc.2 bcast_S_S1x256
  exact ⟨at_refH hg hC bcast_S_S1x256, hC⟩

end

end Cert.Tree
-- ==== Proof.lean ====
module

public import proofs.«01_k».proof.Defs
public import proofs.«01_k».proof.Proof.Bias
public import proofs.«01_k».proof.Proof.KernelRun
public import proofs.«01_k».proof.Proof.ReferenceValue
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_biases
public import Idealize.ShloMosaic.Adequacy
public import Idealize.ShloMosaic.Init

@[expose] public section

noncomputable section

namespace Cert.Proof

open Idealize.ShloMosaic Idealize.SL.Sem Cert.Tree

/-- The kernel as printed runs, leaves its arguments alone and every counter at zero. -/
theorem kernel_frame : Cert.quiescent_Kernel := fun m ρ _ => Cert.Kernel.Gen.frame m ρ

/-- So does the kernel over the extended reals. -/
theorem ideal_frame : Cert.quiescent_KernelIdeal := fun m ρ _ => Cert.KernelIdeal.Gen.frame m ρ

/-- So does the reference, which has no counter at all. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel and the reference end with equal results when both biases are zero: each array is the same final states of the
    arguments, which the two memories share. -/
theorem equal_results : Cert.algebraic_KernelIdeal_ReferenceIdeal_pre_zero_biases := by
  intro m g m' g' hpre hag
  refine ⟨fun c => (Cert.KernelIdeal.Gen.dats m 0 c).arrAt 0 Cert.KernelIdeal.cfg0.N,
    fun c => (Cert.KernelIdeal.Gen.dats m 0 c).arrAt 1 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨e0, e1, e2, e3, e4, e5⟩ := hag c
  obtain ⟨z, z'⟩ := biases_zero (hpre c)
  have v := result_at (StableHlo.launchContents m' c) (fun i => (congrFun e3 i).trans (z i)) (fun i => (congrFun e5 i).trans (z' i))
  simp only [StableHlo.launchContents_devRef, e0, e1, e2, e4] at v
  exact ⟨(h c).1.trans (v.1.unique (array_h m c)), (h c).2.1.trans (v.2.unique (array_c m c)), (h c).2.2⟩

/-- Every claim. -/
theorem claim : Cert.Claim :=
  ⟨Cert.Kernel.Gen.facts, Cert.KernelIdeal.Gen.facts, Cert.ReferenceIdeal.Gen.facts, Cert.Pre_zero_biases.Gen.facts,
    kernel_frame, ideal_frame, fun m ρ _ => ideal_frame m ρ trivial, reference_frame, fun m ρ _ => reference_frame m ρ trivial,
    trivial, equal_results⟩

end Cert.Proof

end
